-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x2048 : Shape := ⟨2, ![2048, 2048]⟩
abbrev S2048x128 : Shape := ⟨2, ![2048, 128]⟩
abbrev S15x128x128 : Shape := ⟨3, ![15, 128, 128]⟩
abbrev S15 : Shape := ⟨1, ![15]⟩
abbrev S_ : Shape := ⟨0, ![]⟩
abbrev S128x128 : Shape := ⟨2, ![128, 128]⟩
abbrev S1x128x128 : Shape := ⟨3, ![1, 128, 128]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S128x2048, .bf16⟩
  | .hbm, ⟨1, _⟩ => ⟨S2048x2048, .bf16⟩
  | .hbm, ⟨2, _⟩ => ⟨S2048x128, .f32⟩
  | .local _ .vmem, ⟨0, _⟩ => ⟨S128x2048, .bf16⟩
  | .local _ .vmem, ⟨1, _⟩ => ⟨S2048x2048, .bf16⟩
  | .local _ .vmem, ⟨2, _⟩ => ⟨S2048x128, .f32⟩
  | .local _ .vmem, ⟨3, _⟩ => ⟨S128x2048, .bf16⟩
  | .local _ .vmem, ⟨4, _⟩ => ⟨S15x128x128, .bf16⟩
  | .local _ .vmem, ⟨5, _⟩ => ⟨S2048x128, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c8_i32_63 : BitVec 32) : Fin 2 → Nat :=
  let c0_65 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.addi v2 c8_i32_63
  let c16_i32_64 : BitVec 32 := 16#32
  let v70 : BitVec 32 := Scalar.remsi v69 c16_i32_64
  let c128_i32 : BitVec 32 := 128#32
  let v71 : BitVec 32 := Scalar.muli v70 c128_i32
  let v72 : Index := Scalar.indexCast v71
  ![0, v72.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_73 : BitVec 32 := 128#32
  let v83 : BitVec 32 := Scalar.muli v2 c128_i32_73
  let c0_i32_79 : BitVec 32 := 0#32
  ![v83.toNat, 0]
def k0_dev16 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_63 : BitVec 32 := 8#32
  let v69 : BitVec 32 := Scalar.addi v2 c8_i32_63
  let c16_i32_64 : BitVec 32 := 16#32
  let v70 : BitVec 32 := Scalar.remsi v69 c16_i32_64
  let c1_i32_77 : BitVec 32 := 1#32
  let v84 : BitVec 32 := Scalar.muli v70 c1_i32_77
  let v85 : BitVec 32 := Scalar.addi c0_i32_78 v84
  v85.toNat
def k0_dev17 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_82 : BitVec 32 := 7#32
  let v93 : BitVec 32 := Scalar.addi v2 c7_i32_82
  let c16_i32_83 : BitVec 32 := 16#32
  let v94 : BitVec 32 := Scalar.remsi v93 c16_i32_83
  let c1_i32_96 : BitVec 32 := 1#32
  let v108 : BitVec 32 := Scalar.muli v94 c1_i32_96
  let v109 : BitVec 32 := Scalar.addi c0_i32_97 v108
  v109.toNat
def k0_dev18 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_101 : BitVec 32 := 9#32
  let v117 : BitVec 32 := Scalar.addi v2 c9_i32_101
  let c16_i32_102 : BitVec 32 := 16#32
  let v118 : BitVec 32 := Scalar.remsi v117 c16_i32_102
  let c1_i32_115 : BitVec 32 := 1#32
  let v132 : BitVec 32 := Scalar.muli v118 c1_i32_115
  let v133 : BitVec 32 := Scalar.addi c0_i32_116 v132
  v133.toNat
def k0_dev19 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_120 : BitVec 32 := 6#32
  let v141 : BitVec 32 := Scalar.addi v2 c6_i32_120
  let c16_i32_121 : BitVec 32 := 16#32
  let v142 : BitVec 32 := Scalar.remsi v141 c16_i32_121
  let c1_i32_134 : BitVec 32 := 1#32
  let v156 : BitVec 32 := Scalar.muli v142 c1_i32_134
  let v157 : BitVec 32 := Scalar.addi c0_i32_135 v156
  v157.toNat
def k0_dev20 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_139 : BitVec 32 := 10#32
  let v165 : BitVec 32 := Scalar.addi v2 c10_i32_139
  let c16_i32_140 : BitVec 32 := 16#32
  let v166 : BitVec 32 := Scalar.remsi v165 c16_i32_140
  let c1_i32_153 : BitVec 32 := 1#32
  let v180 : BitVec 32 := Scalar.muli v166 c1_i32_153
  let v181 : BitVec 32 := Scalar.addi c0_i32_154 v180
  v181.toNat
def k0_dev21 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_158 : BitVec 32 := 5#32
  let v189 : BitVec 32 := Scalar.addi v2 c5_i32_158
  let c16_i32_159 : BitVec 32 := 16#32
  let v190 : BitVec 32 := Scalar.remsi v189 c16_i32_159
  let c1_i32_172 : BitVec 32 := 1#32
  let v204 : BitVec 32 := Scalar.muli v190 c1_i32_172
  let v205 : BitVec 32 := Scalar.addi c0_i32_173 v204
  v205.toNat
def k0_dev22 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_177 : BitVec 32 := 11#32
  let v213 : BitVec 32 := Scalar.addi v2 c11_i32_177
  let c16_i32_178 : BitVec 32 := 16#32
  let v214 : BitVec 32 := Scalar.remsi v213 c16_i32_178
  let c1_i32_191 : BitVec 32 := 1#32
  let v228 : BitVec 32 := Scalar.muli v214 c1_i32_191
  let v229 : BitVec 32 := Scalar.addi c0_i32_192 v228
  v229.toNat
def k0_dev23 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_196 : BitVec 32 := 4#32
  let v237 : BitVec 32 := Scalar.addi v2 c4_i32_196
  let c16_i32_197 : BitVec 32 := 16#32
  let v238 : BitVec 32 := Scalar.remsi v237 c16_i32_197
  let c1_i32_210 : BitVec 32 := 1#32
  let v252 : BitVec 32 := Scalar.muli v238 c1_i32_210
  let v253 : BitVec 32 := Scalar.addi c0_i32_211 v252
  v253.toNat
def k0_dev24 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_215 : BitVec 32 := 12#32
  let v261 : BitVec 32 := Scalar.addi v2 c12_i32_215
  let c16_i32_216 : BitVec 32 := 16#32
  let v262 : BitVec 32 := Scalar.remsi v261 c16_i32_216
  let c1_i32_229 : BitVec 32 := 1#32
  let v276 : BitVec 32 := Scalar.muli v262 c1_i32_229
  let v277 : BitVec 32 := Scalar.addi c0_i32_230 v276
  v277.toNat
def k0_dev25 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_234 : BitVec 32 := 3#32
  let v285 : BitVec 32 := Scalar.addi v2 c3_i32_234
  let c16_i32_235 : BitVec 32 := 16#32
  let v286 : BitVec 32 := Scalar.remsi v285 c16_i32_235
  let c1_i32_248 : BitVec 32 := 1#32
  let v300 : BitVec 32 := Scalar.muli v286 c1_i32_248
  let v301 : BitVec 32 := Scalar.addi c0_i32_249 v300
  v301.toNat
def k0_dev26 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_253 : BitVec 32 := 13#32
  let v309 : BitVec 32 := Scalar.addi v2 c13_i32_253
  let c16_i32_254 : BitVec 32 := 16#32
  let v310 : BitVec 32 := Scalar.remsi v309 c16_i32_254
  let c1_i32_267 : BitVec 32 := 1#32
  let v324 : BitVec 32 := Scalar.muli v310 c1_i32_267
  let v325 : BitVec 32 := Scalar.addi c0_i32_268 v324
  v325.toNat
def k0_dev27 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_272 : BitVec 32 := 2#32
  let v333 : BitVec 32 := Scalar.addi v2 c2_i32_272
  let c16_i32_273 : BitVec 32 := 16#32
  let v334 : BitVec 32 := Scalar.remsi v333 c16_i32_273
  let c1_i32_286 : BitVec 32 := 1#32
  let v348 : BitVec 32 := Scalar.muli v334 c1_i32_286
  let v349 : BitVec 32 := Scalar.addi c0_i32_287 v348
  v349.toNat
def k0_dev28 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_291 : BitVec 32 := 14#32
  let v357 : BitVec 32 := Scalar.addi v2 c14_i32_291
  let c16_i32_292 : BitVec 32 := 16#32
  let v358 : BitVec 32 := Scalar.remsi v357 c16_i32_292
  let c1_i32_305 : BitVec 32 := 1#32
  let v372 : BitVec 32 := Scalar.muli v358 c1_i32_305
  let v373 : BitVec 32 := Scalar.addi c0_i32_306 v372
  v373.toNat
def k0_dev29 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_310 : BitVec 32 := 1#32
  let v381 : BitVec 32 := Scalar.addi v2 c1_i32_310
  let c16_i32_311 : BitVec 32 := 16#32
  let v382 : BitVec 32 := Scalar.remsi v381 c16_i32_311
  let c1_i32_324 : BitVec 32 := 1#32
  let v396 : BitVec 32 := Scalar.muli v382 c1_i32_324
  let v397 : BitVec 32 := Scalar.addi c0_i32_325 v396
  v397.toNat
def k0_dev30 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_329 : BitVec 32 := 15#32
  let v405 : BitVec 32 := Scalar.addi v2 c15_i32_329
  let c16_i32_330 : BitVec 32 := 16#32
  let v406 : BitVec 32 := Scalar.remsi v405 c16_i32_330
  let c1_i32_343 : BitVec 32 := 1#32
  let v420 : BitVec 32 := Scalar.muli v406 c1_i32_343
  let v421 : BitVec 32 := Scalar.addi c0_i32_344 v420
  v421.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_356 : BitVec 32 := 128#32
  let v441 : BitVec 32 := Scalar.muli v2 c128_i32_356
  let v442 : Index := Scalar.indexCast v441
  let c0_357 : Index := 0#32
  ![v442.toNat, 0]
def k0_off4 (d0 : Dev nD) (c8_i32_358 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v444 : BitVec 32 := Scalar.subi v2 c8_i32_358
  let c16_i32_359 : BitVec 32 := 16#32
  let v445 : BitVec 32 := Scalar.addi v444 c16_i32_359
  let c16_i32_360 : BitVec 32 := 16#32
  let v446 : BitVec 32 := Scalar.remsi v445 c16_i32_360
  let c128_i32_361 : BitVec 32 := 128#32
  let v447 : BitVec 32 := Scalar.muli v446 c128_i32_361
  let c0_i32_367 : BitVec 32 := 0#32
  ![v447.toNat, 0]
def k0_off5 (d0 : Dev nD) (c8_i32_358 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v444 : BitVec 32 := Scalar.subi v2 c8_i32_358
  let c16_i32_359 : BitVec 32 := 16#32
  let v445 : BitVec 32 := Scalar.addi v444 c16_i32_359
  let c16_i32_360 : BitVec 32 := 16#32
  let v446 : BitVec 32 := Scalar.remsi v445 c16_i32_360
  let c128_i32_370 : BitVec 32 := 128#32
  let v455 : BitVec 32 := Scalar.muli v446 c128_i32_370
  let v456 : Index := Scalar.indexCast v455
  let c0_371 : Index := 0#32
  ![v456.toNat, 0]
abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Proto.lean ====
/-
# The all-to-all product: vocabulary, contents and the schedule of its semaphores

Sixteen devices. Device `c` holds a row block of `x` (128 rows) and all of `w`. It makes sixteen 128 × 128 tiles, one
per column block of `w`; the tile of column block `t` belongs to device `t`. Fifteen tiles travel: slot `k` of the send
buffer goes to the device at distance `ord k + 1`, into the row block of its gather buffer that carries the sender's
number. Before the first transfer every device signals the fifteen others and waits for fifteen signals, so that a row
block is written only after its owner has lent it.

The schedule names: a device's barrier cell has fifteen duties, one per distance, each handing over one lent row block;
its fifteen send cells hand back the slot; its fifteen receive cells hand over the row block with the tile landed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueIdxCore
public import Idealize.ShloMosaic.Lib.Tactic

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the all-to-all's, whose duties are named by `Fin 15` -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Distances -/

set_option backward.proofsInPublic true in
/-- The device `d + 1` places after `c`. -/
def peer (c : Dev nD) (d : Fin 15) : Dev nD := ⟨(c.val + (d.val + 1)) % 16, Nat.mod_lt _ (by decide)⟩
set_option backward.proofsInPublic true in
/-- The device `d + 1` places before `c`. -/
def bk (c : Dev nD) (d : Fin 15) : Dev nD := ⟨((c.val + 15) - d.val) % 16, Nat.mod_lt _ (by decide)⟩

/-- The distance (less one) slot `k` travels: nearest the antipode first. -/
def ord : Fin 15 → Fin 15 := ![7, 6, 8, 5, 9, 4, 10, 3, 11, 2, 12, 1, 13, 0, 14]
/-- The slot that travels a distance. -/
def ordInv : Fin 15 → Fin 15 := ![13, 11, 9, 7, 5, 3, 1, 0, 2, 4, 6, 8, 10, 12, 14]

theorem ordInv_ord : ∀ k, ordInv (ord k) = k := by decide
theorem ord_ordInv : ∀ k, ord (ordInv k) = k := by decide
/-- Slots and the distances they travel, one to one. -/
def ordE : Fin 15 ≃ Fin 15 := ⟨ord, ordInv, ordInv_ord, ord_ordInv⟩

theorem bk_peer (c : Dev nD) (d : Fin 15) : bk (peer c d) d = c := by revert c d; decide
theorem peer_bk (c : Dev nD) (d : Fin 15) : peer (bk c d) d = c := by revert c d; decide
/-- Fifteen less a distance back is the distance forward. -/
theorem bk_rev (c : Dev nD) (d : Fin 15) : bk c d.rev = peer c d := by revert c d; decide
theorem peer_ne (c : Dev nD) (d : Fin 15) : peer c d ≠ c := by revert c d; decide
theorem bk_ne (c : Dev nD) (d : Fin 15) : bk c d ≠ c := by revert c d; decide
theorem peer_inj (c : Dev nD) (d d' : Fin 15) (h : peer c d = peer c d') : d = d' := by revert c d d'; decide
theorem bk_inj (c : Dev nD) (d d' : Fin 15) (h : bk c d = bk c d') : d = d' := by revert c d d'; decide

/-- Where device `c`'s slot `k` goes, and whence its receive cell `k` is served. -/
abbrev dst (c : Dev nD) (k : Fin 15) : Dev nD := peer c (ord k)
abbrev src (c : Dev nD) (k : Fin 15) : Dev nD := bk c (ord k)
theorem src_dst (c : Dev nD) (k : Fin 15) : src (dst c k) k = c := bk_peer c (ord k)
theorem dst_src (c : Dev nD) (k : Fin 15) : dst (src c k) k = c := peer_bk c (ord k)

/-- Moving every device forward by one distance is a permutation. -/
def shiftE (d : Fin 15) : Dev nD ≃ Dev nD := ⟨fun c => peer c d, fun c => bk c d, fun c => bk_peer c d, fun c => peer_bk c d⟩

/-! ## Slots still to come (`n` and above) and slots done (below `n`) -/

abbrev ge (n : ℕ) : Finset (Fin 15) := Ring.rangeSet 15 n 15
abbrev lt (n : ℕ) : Finset (Fin 15) := Ring.rangeSet 15 0 n

/-! ## The memrefs -/

abbrev xM : Memref sig .tc .vmem S128x2048 .bf16 := Memref.whole cc0_stg0_0
abbrev wM : Memref sig .tc .vmem S2048x2048 .bf16 := Memref.whole cc0_stg1_0
abbrev oM : Memref sig .tc .vmem S2048x128 .f32 := Memref.whole cc0_stg2_0
abbrev xbM : Memref sig .tc .vmem S128x2048 .bf16 := Memref.whole cc0_scratch0
abbrev sbM : Memref sig .tc .vmem S15x128x128 .bf16 := Memref.whole cc0_scratch1
abbrev gbM : Memref sig .tc .vmem S2048x128 .bf16 := Memref.whole cc0_scratch2

theorem rowInb (t : Fin 16) : ∀ a, (![128 * t.val, 0] : Fin 2 → Nat) a + S128x128.size a ≤ S2048x128.size a := by
  revert t; decide
theorem colInb (t : Fin 16) : ∀ a, (![0, 128 * t.val] : Fin 2 → Nat) a + S2048x128.size a ≤ S2048x2048.size a := by
  revert t; decide
theorem slotInb (k : Fin 15) : ∀ a, (![k.val, 0, 0] : Fin 3 → Nat) a + S1x128x128.size a ≤ S15x128x128.size a := by
  revert k; decide

/-- Row block `t` of a 2048 × 128 buffer, column block `t` of `w`, slot `k` of the send buffer, as rectangles. -/
abbrev rowR (t : Fin 16) : Rect S2048x128 := Rect.unit (s := S2048x128) ![128 * t.val, 0] S128x128.size (rowInb t)
abbrev colR (t : Fin 16) : Rect S2048x2048 := Rect.unit (s := S2048x2048) ![0, 128 * t.val] S2048x128.size (colInb t)
abbrev slotR (k : Fin 15) : Rect S15x128x128 := Rect.unit (s := S15x128x128) ![k.val, 0, 0] S1x128x128.size (slotInb k)

/-- Row block `t` of the gather buffer; slot `k` of the send buffer, as a 128 × 128 tile. -/
abbrev gM (t : Fin 16) : Memref sig .tc .vmem S128x128 .bf16 := gbM.slice (rowR t) (fun _ => rfl)
abbrev sM (k : Fin 15) : Memref sig .tc .vmem S128x128 .bf16 :=
  (sbM.slice (slotR k) (fun _ => rfl)).squeeze S128x128 squeezes_S1x128x128_S128x128

/-! ## The semaphore cells -/

/-- The runtime's barrier semaphore; the send and receive semaphores of slot `k`. -/
abbrev barS : Sem sig := (SemArray.scalar (sig.barrier 0 rfl) : Sems sig S_).sem
set_option backward.proofsInPublic true in
def sendS (k : Fin 15) : DmaSem sig := ⟨k.val + 3, by have := k.isLt; show k.val + 3 < 33; omega⟩
set_option backward.proofsInPublic true in
def recvS (k : Fin 15) : DmaSem sig := ⟨k.val + 18, by have := k.isLt; show k.val + 18 < 33; omega⟩

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

/-- The kernel's own semaphores, indexed by (is it a receive semaphore?, slot); with the barrier, all it uses. -/
abbrev osem : Bool × Fin 15 → SemLoc sig := fun | (true, k) => .dma (recvS k) | (false, k) => .dma (sendS k)
abbrev CI : Type := Option (Bool × Fin 15)
abbrev csem : CI → SemLoc sig := fun | none => .reg barS | some i => osem i
abbrev kcell (ck : Dev nD × CI) : GSem nD τ sig := ((ck.1 : Thread nD τ), csem ck.2)

/-- What one tile's transfer credits. -/
abbrev N : ℕ := (gM 0).view.dmaCredit
theorem N_pos : 0 < N := View.dmaCredit_pos _ (by decide)

/-! ## Contents -/

/-- Device `c`'s row block of `x` and its copy of `w`, as the launch stages them. -/
def xC (c : Dev nD) : (cc0_stg0_0 : Ref sig .tc).ty.Contents (Elt F) :=
  (win0_0.blk (0 : Fin 1)).view.read (Elt F) ((s₀ m ρ).mem ((c : Thread nD τ).loc main_arg0))
def wC (c : Dev nD) : (cc0_stg1_0 : Ref sig .tc).ty.Contents (Elt F) :=
  (win0_1.blk (0 : Fin 1)).view.read (Elt F) ((s₀ m ρ).mem ((c : Thread nD τ).loc main_arg1))

/-- Column block `t` of a copy of `w`. -/
def wcol (W : (cc0_stg1_0 : Ref sig .tc).ty.Contents (Elt F)) (t : Fin 16) : FVec F S2048x128 .bf16 :=
  wM.view.readAt (Elt F) (colR t).toLoadRect W

/-- The tile device `s` makes for device `t`. -/
def tile (s t : Dev nD) : FVec F S128x128 .bf16 := k0_pay4 (wcol (wC m ρ s) t) (xC m ρ s)

/-- The result on device `c`: row block `s` is device `s`'s tile for `c`, widened. -/
def outC (c : Dev nD) : (cc0_stg2_0 : Ref sig .tc).ty.Contents (Elt F) := fun i =>
  extf .f32 (tile m ρ ⟨(i 0).val / 128, Nat.div_lt_of_lt_mul (i 0).isLt⟩ c) bitsLt_bf16_f32
    (ValueIdx.ix2 ⟨(i 0).val % 128, Nat.mod_lt _ (by decide)⟩ (i 1))

/-! ## What is held -/

/-- Row block `t` of device `c`'s gather buffer, holding `f`. -/
def gPts (c t : Dev nD) (f : Buf (Elt F) ((gM t).view.loc (c : Thread nD τ))) : sProp 𝕄 :=
  (gM t).view.loc (c : Thread nD τ) ↦[(gM t).view.set]{fullShare} f
/-- Slot `k` of device `c`'s send buffer, holding `f`. -/
def sPts (c : Dev nD) (k : Fin 15) (f : Buf (Elt F) ((sM k).view.loc (c : Thread nD τ))) : sProp 𝕄 :=
  (sM k).view.loc (c : Thread nD τ) ↦[(sM k).view.set]{fullShare} f

/-- The row block at some contents; the slot at some contents. -/
def gAny (c t : Dev nD) : sProp 𝕄 := iprop(∃ f, gPts c t f)
def sAny (c : Dev nD) (k : Fin 15) : sProp 𝕄 := iprop(∃ f, sPts c k f)
/-- The row block holding the tile device `t` made for `c`; the slot holding the tile for `dst c k`. -/
def gTile (c t : Dev nD) : sProp 𝕄 := iprop(∃ f, ⌜(gM t).view.read (Elt F) f = tile m ρ t c⌝ ∗ gPts c t f)
def sTile (c : Dev nD) (k : Fin 15) : sProp 𝕄 := iprop(∃ f, ⌜(sM k).view.read (Elt F) f = tile m ρ c (dst c k)⌝ ∗ sPts c k f)

omit [FloatOps F] in
instance gPts_storable (c t : Dev nD) (f) : BI.Storable (upEmb : UEmb _ 𝕄) (gPts (F := F) c t f) := by unfold gPts; infer_instance
omit [FloatOps F] in
instance sPts_storable (c : Dev nD) (k : Fin 15) (f) : BI.Storable (upEmb : UEmb _ 𝕄) (sPts (F := F) c k f) := by unfold sPts; infer_instance
omit [FloatOps F] in
instance gAny_storable (c t : Dev nD) : BI.Storable (upEmb : UEmb _ 𝕄) (gAny (F := F) c t) := by unfold gAny; infer_instance
omit [FloatOps F] in
instance sAny_storable (c : Dev nD) (k : Fin 15) : BI.Storable (upEmb : UEmb _ 𝕄) (sAny (F := F) c k) := by unfold sAny; infer_instance
instance gTile_storable (c t : Dev nD) : BI.Storable (upEmb : UEmb _ 𝕄) (gTile (F := F) m ρ c t) := by unfold gTile; infer_instance

/-! ## The schedule -/

/-- The slot a transfer semaphore serves. -/
def slotOf (q : DmaSem sig) : Fin 15 := ⟨(q.val - 3) % 15, Nat.mod_lt _ (by decide)⟩
theorem slotOf_send (k : Fin 15) : slotOf (sendS k) = k := by revert k; decide
theorem slotOf_recv (k : Fin 15) : slotOf (recvS k) = k := by revert k; decide

/-- One round. A barrier cell has fifteen duties of one unit: duty `d` is paid by the device `d + 1` before it, with that
    device's row block for the cell's owner. A send or a receive cell has one duty of a tile's credit, paid with the slot or
    with the row block holding the tile. -/
def rd : Rounds.Schedule (GSem nD τ sig) (Fin 15) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => gAny (bk g.1.1 d) g.1.1
    | .dma q => if 18 ≤ q.val then gTile m ρ g.1.1 (src g.1.1 (slotOf q)) else sAny g.1.1 (slotOf q)
  amount_pos g _ _ _ := by
    obtain ⟨t, q | q⟩ := g
    · exact Nat.one_pos
    · exact N_pos

instance rd_payload_storable (g : GSem nD τ sig) (r : ℕ) (d : Fin 15) :
    BI.Storable (upEmb : UEmb _ 𝕄) ((rd (F := F) m ρ).payload g r d) := by
  obtain ⟨t, q | q⟩ := g
  · show BI.Storable upEmb (gAny (bk t.1 d) t.1); infer_instance
  · show BI.Storable upEmb (if 18 ≤ q.val then gTile m ρ t.1 (src t.1 (slotOf q)) else sAny t.1 (slotOf q))
    split <;> infer_instance

section Sched
variable (c : Dev nD) (k : Fin 15)

theorem duties_bar : (rd (F := F) m ρ).duties (barCell c) 0 = Finset.univ := by
  dsimp only [rd]; exact if_pos ⟨rfl, rfl⟩
theorem duties_send : (rd (F := F) m ρ).duties (sendCell c k) 0 = {0} := by
  dsimp only [rd]; exact if_pos ⟨rfl, rfl⟩
theorem duties_recv : (rd (F := F) m ρ).duties (recvCell c k) 0 = {0} := by
  dsimp only [rd]; exact if_pos ⟨rfl, rfl⟩
theorem duties_later (g : GSem nD τ sig) : ∀ r, 1 ≤ r → (rd (F := F) m ρ).duties g r = ∅ :=
  fun r hr => if_neg fun h => by have := h.1; omega

theorem amount_bar (d : Fin 15) : (rd (F := F) m ρ).amount (barCell c) 0 d = 1 := rfl
theorem amount_send (d : Fin 15) : (rd (F := F) m ρ).amount (sendCell c k) 0 d = N := rfl
theorem amount_recv (d : Fin 15) : (rd (F := F) m ρ).amount (recvCell c k) 0 d = N := rfl

theorem expect_bar : (rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell c k) 0 = N := by
  unfold Schedule.expect Schedule.amountOf; rw [duties_send, Finset.sum_singleton, amount_send]
theorem expect_recv : (rd (F := F) m ρ).expect (recvCell c k) 0 = N := by
  unfold Schedule.expect Schedule.amountOf; rw [duties_recv, Finset.sum_singleton, amount_recv]

theorem payload_bar (d : Fin 15) : (rd (F := F) m ρ).payload (barCell c) 0 d = gAny (bk c d) c := rfl
theorem payload_send (d : Fin 15) : (rd (F := F) m ρ).payload (sendCell c k) 0 d = sAny c k := by
  show (if 18 ≤ (sendS k).val then gTile m ρ c (src c (slotOf (sendS k))) else sAny c (slotOf (sendS k))) = _
  rw [slotOf_send, if_neg (by have := k.isLt; simp only [sendS]; omega)]
theorem payload_recv (d : Fin 15) : (rd (F := F) m ρ).payload (recvCell c k) 0 d = gTile m ρ c (src c k) := by
  show (if 18 ≤ (recvS k).val then gTile m ρ c (src c (slotOf (recvS k))) else sAny c (slotOf (recvS k))) = _
  rw [slotOf_recv, if_pos (by simp only [recvS]; omega)]

/-- The barrier cell's whole round: the fifteen lent row blocks. -/
theorem rest_bar : bigSep ((rd (F := F) m ρ).duties (barCell c) 0 \ ∅) (fun d => (rd (F := F) m ρ).payload (barCell c) 0 d)
    = bigSep Finset.univ (fun d => gAny (bk c d) c) := by
  rw [Finset.sdiff_empty, duties_bar]; rfl
theorem rest_send : bigSep ((rd (F := F) m ρ).duties (sendCell c k) 0 \ ∅) (fun d => (rd (F := F) m ρ).payload (sendCell c k) 0 d) = sAny c k := by
  rw [Finset.sdiff_empty, duties_send, bigSep_singleton, payload_send]
theorem rest_recv : bigSep ((rd (F := F) m ρ).duties (recvCell c k) 0 \ ∅) (fun d => (rd (F := F) m ρ).payload (recvCell c k) 0 d)
    = gTile m ρ c (src c k) := by
  rw [Finset.sdiff_empty, duties_recv, bigSep_singleton, payload_recv]

end Sched

/-! ## What each device owes, and the levels -/

/-- The credit of the transfers of slots `n` and above; the signals to the devices at distances above `n`. -/
def Orecv (c : Dev nD) (n : ℕ) : CellTallies nD τ sig Unit := ∑ k ∈ ge n, tallyAt (recvCell (dst c k) k) () N
def Obar (c : Dev nD) (n : ℕ) : CellTallies nD τ sig Unit := ∑ d ∈ ge n, tallyAt (barCell (peer c d)) () 1
/-- What device `c` owes at launch. -/
def O₀ (c : Dev nD) : CellTallies nD τ sig Unit := Orecv c 0 + Obar c 0

theorem ge_head {n : ℕ} (h : n < 15) : ge n = insert ⟨n, h⟩ (ge (n + 1)) := Ring.rangeSet_head h h
theorem Orecv_head (c : Dev nD) {n : ℕ} (h : n < 15) :
    Orecv c n = Orecv c (n + 1) + tallyAt (recvCell (dst c ⟨n, h⟩) ⟨n, h⟩) () N := by
  unfold Orecv; rw [ge_head h, Finset.sum_insert (Ring.head_not_mem_rangeSet h), add_comm]
theorem Obar_head (c : Dev nD) {n : ℕ} (h : n < 15) :
    Obar c n = Obar c (n + 1) + tallyAt (barCell (peer c ⟨n, h⟩)) () 1 := by
  unfold Obar; rw [ge_head h, Finset.sum_insert (Ring.head_not_mem_rangeSet h), add_comm]
theorem Orecv_end (c : Dev nD) : Orecv c 15 = 0 := by unfold Orecv; rw [ge, Ring.rangeSet_empty (le_refl 15), Finset.sum_empty]
theorem Obar_end (c : Dev nD) : Obar c 15 = 0 := by unfold Obar; rw [ge, Ring.rangeSet_empty (le_refl 15), Finset.sum_empty]

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 15) (u : Unit) : lv (recvCell c k) u = 2 := by
  show (if 18 ≤ (recvS k).val then 2 else 0) = 2
  exact if_pos (by simp only [recvS]; omega)

/-- A sum of tallies is positive only where one of them is. -/
theorem sum_pos_exists {I : Type} {s : Finset I} {f : I → CellTallies nD τ sig Unit} {g : GSem nD τ sig} {u : Unit}
    (h : 0 < (∑ i ∈ s, f i) g u) : ∃ i ∈ s, 0 < f i g u := by
  by_contra hn
  have h0 : (∑ i ∈ s, f i) g u = 0 := by
    rw [Finset.sum_apply, Finsupp.finsetSum_apply]
    exact Finset.sum_eq_zero fun i hi => Nat.eq_zero_of_not_pos fun hp => hn ⟨i, hi, hp⟩
  omega

theorem tally_pos {g g' : GSem nD τ sig} {u u' : Unit} {k : ℕ} (h : 0 < (tallyAt g u k : CellTallies nD τ sig Unit) g' u') : g' = g := by
  rw [tallyAt_apply] at h
  by_contra hn
  rw [if_neg (fun h' => hn h'.1)] at h
  exact Nat.lt_irrefl 0 h

theorem Orecv_pos {c : Dev nD} {n : ℕ} {g : GSem nD τ sig} {u : Unit} (h : 0 < Orecv c n g u) : ∃ k, g = recvCell (dst c k) k := by
  obtain ⟨k, -, hk⟩ := sum_pos_exists h
  exact ⟨k, tally_pos hk⟩

theorem O₀_pos {c : Dev nD} {g : GSem nD τ sig} {u : Unit} (h : 0 < O₀ c g u) :
    (∃ k, g = recvCell (dst c k) k) ∨ ∃ d, g = barCell (peer c d) := by
  unfold O₀ at h
  rw [Pi.add_apply, Finsupp.add_apply] at h
  rcases Nat.lt_or_ge 0 (Orecv c 0 g u) with h1 | h1
  · exact .inl (Orecv_pos h1)
  · obtain ⟨d, -, hd⟩ := sum_pos_exists (f := fun d => tallyAt (barCell (peer c d)) () 1) (s := ge 0) (g := g) (u := u)
      (by have : 0 < Obar c 0 g u := by omega
          exact this)
    exact .inr ⟨d, tally_pos hd⟩

/-- The staging waits: whatever a device owes, its staging cells are below. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by rw [Finset.mem_singleton.mp hp]; dsimp only [lv]; rw [if_neg (by omega)])
      (fun g u hg => by
        rcases O₀_pos hg with ⟨k, rfl⟩ | ⟨d, rfl⟩
        · rw [lv_recv]; decide
        · exact Nat.one_pos)
  · rw [MayWait_zero]; iintro -; iempintro

/-- The barrier wait: a device then owes receive cells only, which are above. -/
theorem mayWait_bar (c : Dev nD) : (levAts L lv : sProp 𝕄) ⊢ MayWait (c : Thread nD τ) (.reg barS) () (Orecv c 0) :=
  MayOwe.of_cut (L := L) (lev := lv) 1 (fun p hp => by rw [Finset.mem_singleton.mp hp, L_tc]; exact Finset.mem_singleton_self _)
    (fun g u hg => by obtain ⟨k, rfl⟩ := Orecv_pos hg; rw [L_tc]; exact Finset.mem_singleton_self _)
    (fun p hp => by rw [Finset.mem_singleton.mp hp]; exact le_refl 1)
    (fun g u hg => by obtain ⟨k, rfl⟩ := Orecv_pos hg; rw [lv_recv]; decide)

end Cert.KernelIdeal.A2A

end
-- ==== Proof.Steps.lean ====
/-
# The states the kernel's body passes through, and one lemma per kind of step

A state is: the protocol's persistent records; the four buffers a device holds for itself (its `x` block, its `w`, the
working copy of the `x` block, the result); and the resources of the phase the body is in. Each step lemma takes the state
before one effect to the state after it; the body's parts are chains of them.
-/
module

public import proofs.«01_k».proof.Proof.Proto
public import Idealize.ShloMosaic.Lib.Pipeline.Value

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem lift_bind {β α : Type} (e : TpuEff nD τ sig (Elt F) Λ₀ .tc β) (k : β → Prog (TpuEff nD τ sig (Elt F) Λ₀ .tc) α) :
    (Prog.lift e >>= k) = .op e k := by
  simp only [Prog.lift, Prog.bind_op, Prog.bind_ret]

/-! ## The states -/

/-- The persistent records: the levels, every cell's invariant (under the names `K`), every cell's having reached round 0. -/
def Ctx (K : Dev nD × CI → ℕ) : sProp 𝕄 :=
  iprop(levAts L lv ∗ bigSep Finset.univ (fun ck => cellInv ER (rd m ρ) (K ck) (kcell ck))
    ∗ bigSep Finset.univ (fun ck => reached ER (kcell ck) 0))

instance Ctx_persistent (K : Dev nD × CI → ℕ) : BI.Persistent (Ctx m ρ K) := by unfold Ctx; infer_instance

theorem Ctx_lev (K : Dev nD × CI → ℕ) : Ctx m ρ K ⊢ (levAts L lv : sProp 𝕄) := by
  unfold Ctx; iintro ⟨H, -, -⟩; iexact H
theorem Ctx_inv (K : Dev nD × CI → ℕ) (ck : Dev nD × CI) : Ctx m ρ K ⊢ cellInv ER (rd m ρ) (K ck) (kcell ck) := by
  unfold Ctx; iintro ⟨-, H, -⟩
  have e : bigSep Finset.univ (fun ck => cellInv ER (rd m ρ) (K ck) (kcell ck)) ⊢ cellInv ER (rd m ρ) (K ck) (kcell ck) :=
    bigSep_elim (Finset.mem_univ ck)
  iapply e; iexact H
theorem Ctx_reached (K : Dev nD × CI → ℕ) (ck : Dev nD × CI) : Ctx m ρ K ⊢ reached ER (kcell ck) 0 := by
  unfold Ctx; iintro ⟨-, -, H⟩
  have e : bigSep Finset.univ (fun ck => (reached ER (kcell ck) 0 : sProp 𝕄)) ⊢ reached ER (kcell ck) 0 :=
    bigSep_elim (Finset.mem_univ ck)
  iapply e; iexact H

/-- What device `c` owes, whatever it has waited on so far. -/
def ow (c : Dev nD) (O : CellTallies nD τ sig Unit) : sProp 𝕄 := iprop(∃ W, owes (c : Thread nD τ) O W)

def xP (c : Dev nD) : sProp 𝕄 := (c : Thread nD τ).loc cc0_stg0_0 ↦{fullShare} xC m ρ c
def wP (c : Dev nD) : sProp 𝕄 := (c : Thread nD τ).loc cc0_stg1_0 ↦{fullShare} wC m ρ c
/-- The working copy of the `x` block: at any contents, then at the block. -/
def xbAny (c : Dev nD) : sProp 𝕄 := iprop(∃ f, (c : Thread nD τ).loc cc0_scratch0 ↦{fullShare} f)
def xbX (c : Dev nD) : sProp 𝕄 := (c : Thread nD τ).loc cc0_scratch0 ↦{fullShare} xC m ρ c
/-- The result buffer, the row blocks of the devices in `D` done. -/
def outP (c : Dev nD) (D : Finset (Dev nD)) : sProp 𝕄 :=
  iprop(∃ f : Buf (Elt F) ((c : Thread nD τ).loc cc0_stg2_0),
    ⌜∀ s ∈ D, (oM.access (rowR s)).read (Elt F) f = extf .f32 (tile m ρ s c) bitsLt_bf16_f32⌝
      ∗ (c : Thread nD τ).loc cc0_stg2_0 ↦{fullShare} f)

/-- A state: the records, the four private buffers, the phase's resources. -/
def St (K : Dev nD × CI → ℕ) (c : Dev nD) (X O A : sProp 𝕄) : sProp 𝕄 :=
  iprop(Ctx m ρ K ∗ (xP m ρ c ∗ wP m ρ c ∗ X ∗ O) ∗ A)

/-- The signalling phase, the signals below `n` sent. -/
def SigSt (c : Dev nD) (n : ℕ) : sProp 𝕄 :=
  iprop(ow c (Orecv c 0 + Obar c n)
    ∗ bigSep (ge n) (fun d => iprop(dutyTok ER (barCell (peer c d)) 0 d ∗ gAny c (peer c d))))

/-- The send buffer, slots below `j` sent; -/
def SlotSt (c : Dev nD) (j : ℕ) : sProp 𝕄 :=
  iprop(bigSep (ge j) (fun k => iprop(sAny c k ∗ dutyTok ER (sendCell c k) 0 0))
    ∗ bigSep (lt j) (fun k => cred (tallyAt (sendCell c k) () N)))
/-- slot `j` now holding its tile. -/
def SlotSt' (c : Dev nD) (j : Fin 15) : sProp 𝕄 :=
  iprop((sTile m ρ c j ∗ dutyTok ER (sendCell c j) 0 0)
    ∗ bigSep (ge (j.val + 1)) (fun k => iprop(sAny c k ∗ dutyTok ER (sendCell c k) 0 0))
    ∗ bigSep (lt j.val) (fun k => cred (tallyAt (sendCell c k) () N)))
/-- What the transfers need at the far side: before the barrier, -/
def RemB (c : Dev nD) : sProp 𝕄 :=
  iprop(ow c (Orecv c 0) ∗ bigSep Finset.univ (fun k => dutyTok ER (recvCell (dst c k) k) 0 0)
    ∗ cred (tallyAt (barCell c) () 15) ∗ atPos ER (barCell c) 0 ∅ 0)
/-- after it, slots below `j` sent. -/
def Rem (c : Dev nD) (j : ℕ) : sProp 𝕄 :=
  iprop(ow c (Orecv c j) ∗ bigSep (ge j) (fun k => iprop(dutyTok ER (recvCell (dst c k) k) 0 0 ∗ gAny (dst c k) c))
    ∗ atPos ER (barCell c) 1 ∅ 0)

/-- The receiving phase, the row blocks below `n` received and read; -/
def RecvSt (c : Dev nD) (n : ℕ) : sProp 𝕄 :=
  iprop(ow c 0 ∗ bigSep (ge n) (fun k => iprop(cred (tallyAt (recvCell c k) () N) ∗ atPos ER (recvCell c k) 0 ∅ 0))
    ∗ bigSep (lt n) (fun k => iprop(gAny c (src c k) ∗ atPos ER (recvCell c k) 1 ∅ 0)))
/-- row block `n` received and not yet read. -/
def RecvSt' (c : Dev nD) (n : Fin 15) : sProp 𝕄 :=
  iprop((gTile m ρ c (src c n) ∗ atPos ER (recvCell c n) 1 ∅ 0) ∗ ow c 0
    ∗ bigSep (ge (n.val + 1)) (fun k => iprop(cred (tallyAt (recvCell c k) () N) ∗ atPos ER (recvCell c k) 0 ∅ 0))
    ∗ bigSep (lt n.val) (fun k => iprop(gAny c (src c k) ∗ atPos ER (recvCell c k) 1 ∅ 0)))

/-- The last phase, the slots below `n` back. -/
def SendSt (c : Dev nD) (n : ℕ) : sProp 𝕄 :=
  iprop(ow c 0 ∗ bigSep (ge n) (fun k => iprop(cred (tallyAt (sendCell c k) () N) ∗ atPos ER (sendCell c k) 0 ∅ 0))
    ∗ bigSep (lt n) (fun k => iprop(sAny c k ∗ atPos ER (sendCell c k) 1 ∅ 0)))

/-! ## Taking the next of a family, and adding to the ones done -/

theorem ge_take {M : Type} [URA M] (Φ : Fin 15 → sProp M) {n : ℕ} (h : n < 15) :
    bigSep (ge n) Φ = iprop(Φ ⟨n, h⟩ ∗ bigSep (ge (n + 1)) Φ) := Ring.bigSep_rangeSet_head h h
theorem lt_add {M : Type} [URA M] (Φ : Fin 15 → sProp M) {n : ℕ} (h : n < 15) :
    bigSep (lt (n + 1)) Φ = iprop(Φ ⟨n, h⟩ ∗ bigSep (lt n) Φ) :=
  Ring.bigSep_rangeSet_last (Nat.succ_pos n) h
theorem ge_zero {M : Type} [URA M] (Φ : Fin 15 → sProp M) : bigSep (ge 0) Φ = bigSep Finset.univ Φ := by
  unfold ge; rw [Ring.rangeSet_univ]
theorem lt_all {M : Type} [URA M] (Φ : Fin 15 → sProp M) : bigSep (lt 15) Φ = bigSep Finset.univ Φ := by
  unfold lt; rw [Ring.rangeSet_univ]
theorem ge_end {M : Type} [URA M] (Φ : Fin 15 → sProp M) : bigSep (ge 15) Φ = iprop(emp) :=
  Ring.bigSep_rangeSet_empty (le_refl 15)
theorem lt_zero {M : Type} [URA M] (Φ : Fin 15 → sProp M) : bigSep (lt 0) Φ = iprop(emp) :=
  Ring.bigSep_rangeSet_empty (le_refl 0)

section Steps

variable (K : Dev nD × CI → ℕ) (c : Dev nD) {α : Type}

/-! ## Signals and the barrier -/

/-- A signal to the device at distance `n + 1`: it lends that device its row block. -/
theorem step_signal {X O G : sProp 𝕄} {Q : α → sProp 𝕄} (n : Fin 15) (d0 : Dev nD) (hd : d0 = peer c n) {s : Sem sig} (hs : s = barS) {k : PUnit.{1} → Prog (TpuEff nD τ sig (Elt F) Λ₀ .tc) α}
    (h : St m ρ K c X O iprop(SigSt c (n.val + 1) ∗ G) ⊢ run c (k ⟨⟩) Q) :
    St m ρ K c X O iprop(SigSt c n.val ∗ G) ⊢ run c (semSignalWord d0 s 1#32 >>= k) Q := by
  subst hd hs
  have e : (run c (semSignalWord (peer c n) barS 1#32 >>= k) Q : sProp 𝕄) = run c (.op (.semSignal (peer c n : Thread nD τ) barS 1) k) Q := by
    simp only [semSignalWord, Prog.bind_op, Prog.bind_ret]; rfl
  rw [e]
  unfold St SigSt ow
  rw [ge_take _ n.isLt]
  iintro ⟨#HC, HM, ⟨⟨%W, HO⟩, ⟨Ht, Hg⟩, Hr⟩, HG⟩
  iapply (Rounds.wp_signal 𝒱₀ ER (rd m ρ) (c : Thread nD τ) none (dst := (peer c n : Thread nD τ)) (κ := K (peer c n, none))
      (d := n) (r := 0) (by rw [duties_bar]; exact Finset.mem_univ _) (amount_bar m ρ (peer c n) n) () (O₀ := Orecv c 0 + Obar c n.val) (Orecv c 0 + Obar c (n.val + 1))
      (by rw [Obar_head c n.isLt, add_assoc])) $$ [HO Ht Hg]
  · isplitr; · iapply (Ctx_inv m ρ K (peer c n, none)); iexact HC
    isplitl [HO]; · iexact HO
    isplitl [Ht]; · iexact Ht
    isplitl [Hg]; · rw [payload_bar, bk_peer]; iexact Hg
    iapply (Ctx_reached m ρ K (peer c n, none)); iexact HC
  iintro HO
  iapply h
  unfold St SigSt ow
  isplitr; · iexact HC
  isplitl [HM]; · iexact HM
  isplitr [HG]
  · isplitl [HO]; · iexists W; iexact HO
    iexact Hr
  iexact HG

/-- The fifteen lent row blocks, by slot. -/
theorem lent_by_slot : bigSep Finset.univ (fun d => (gAny (bk c d) c : sProp 𝕄)) = bigSep Finset.univ (fun k => gAny (dst c k) c) := by
  have e := BI.bigSep_univ_equiv (ordE.trans Fin.revPerm) (Φ := fun d => (gAny (bk c d) c : sProp 𝕄))
  rw [e]
  exact bigSep_congr fun k _ => by rw [show bk c ((ordE.trans Fin.revPerm) k) = dst c k from bk_rev c (ord k)]

/-- The wait for fifteen signals: the fifteen devices' row blocks come with them. -/
theorem step_barrier {X O A G : sProp 𝕄} {Q : α → sProp 𝕄} {s : Sem sig} (hs : s = barS) {k : PUnit.{1} → Prog (TpuEff nD τ sig (Elt F) Λ₀ .tc) α}
    (h : St m ρ K c X O iprop(A ∗ Rem c 0 ∗ G) ⊢ run c (k ⟨⟩) Q) :
    St m ρ K c X O iprop(A ∗ RemB c ∗ G) ⊢ run c (semWaitWord s 15#32 >>= k) Q := by
  subst hs
  have e : (run c (semWaitWord barS 15#32 >>= k) Q : sProp 𝕄) = run c (.op (.semWait barS 15) k) Q := by
    simp only [semWaitWord, Prog.bind_op, Prog.bind_ret]; rfl
  rw [e]
  have hm : Ctx m ρ K ⊢ MayWait (c : Thread nD τ) (.reg barS) () (Orecv c 0) := by
    have h2 := mayWait_bar (F := F) c
    unfold Ctx; iintro ⟨H, -, -⟩; iapply h2; iexact H
  unfold St RemB ow
  iintro ⟨#HC, HM, HA, ⟨⟨%W, HO⟩, Ht, Hc, Hat⟩, HG⟩
  iapply (Rounds.wp_wait_rest_token 𝒱₀ ER (rd m ρ) (c : Thread nD τ) none (κ := K (c, none))
      (wpE_semWait_eq 𝒱₀ (c : Thread nD τ) none Set.univ) (Set.mem_univ _) () (O := Orecv c 0) (W := W) (R := 0) (m := 0) (T := ∅)
      (by rw [expect_bar])) $$ [Hc HO Hat]
  · isplitr; · iapply (Ctx_inv m ρ K (c, none)); iexact HC
    isplitl [Hc]; · iexact Hc
    isplitl [HO]; · iexact HO
    isplitr; · iapply hm; iexact HC
    iexact Hat
  iintro ⟨HO, Hat, -, Hpay⟩
  ihave Hp := (Entails.of_eq ((rest_bar m ρ c).trans (lent_by_slot c))) $$ Hpay
  iapply h
  unfold St Rem ow
  isplitr; · iexact HC
  isplitl [HM]; · iexact HM
  isplitl [HA]; · iexact HA
  isplitr [HG]
  · isplitl [HO]; · iexists _; iexact HO
    isplitr [Hat]
    · rw [ge_zero, bigSep_sep']; isplitl [Ht]; · iexact Ht
      iexact Hp
    iexact Hat
  iexact HG

/-! ## Loads and stores of the private buffers -/

omit [FloatOps F] in
theorem zero2 : (![0, 0] : Fin 2 → Nat) = fun _ => 0 := funext fun a => by fin_cases a <;> rfl

/-- A load of the whole `x` block. -/
theorem step_load_x {X O A : sProp 𝕄} {Q : α → sProp 𝕄} {inb} {hl : xM.view.LoadsAt (Rect.unit (s := S128x2048) ![0, 0] S128x2048.size inb).toLoadRect}
    {k : Vec F S128x2048 .bf16 → Prog (TpuEff nD τ sig (Elt F) Λ₀ .tc) α}
    (h : St m ρ K c X O A ⊢ run c (k (xC m ρ c)) Q) :
    St m ρ K c X O A ⊢ run c (Prog.lift (.load xM (Rect.unit (s := S128x2048) ![0, 0] S128x2048.size inb).toLoadRect hl) >>= k) Q := by
  rw [lift_bind]
  have e : xM.view.readAt (Elt F) (Rect.unit (s := S128x2048) ![0, 0] S128x2048.size inb).toLoadRect (xC m ρ c) = xC m ρ c :=
    Memref.readAt_unit_zero (Elt F) cc0_stg0_0 zero2 _ _
  unfold St xP
  iintro ⟨#HC, ⟨Hx, Hw, HX, HO⟩, HA⟩
  iapply (wp_load 𝒱₀ (c : Thread nD τ) none Set.univ (m := xM) (Finset.subset_univ _)) $$ Hx; iintro Hx
  rw [e]
  iapply h
  unfold St xP
  isplitr; · iexact HC
  isplitr [HA]
  · isplitl [Hx]; · iexact Hx
    isplitl [Hw]; · iexact Hw
    isplitl [HX] <;> iassumption
  iexact HA

/-- A load of a column block of `w`. -/
theorem step_load_w (t : Fin 16) {off : Fin 2 → Nat} {inb} (hoff : off = ![0, 128 * t.val]) {X O A : sProp 𝕄} {Q : α → sProp 𝕄}
    {hl : wM.view.LoadsAt (Rect.unit (s := S2048x2048) off S2048x128.size inb).toLoadRect}
    {k : Vec F S2048x128 .bf16 → Prog (TpuEff nD τ sig (Elt F) Λ₀ .tc) α}
    (h : St m ρ K c X O A ⊢ run c (k (wcol (wC m ρ c) t)) Q) :
    St m ρ K c X O A ⊢ run c (Prog.lift (.load wM (Rect.unit (s := S2048x2048) off S2048x128.size inb).toLoadRect hl) >>= k) Q := by
  subst hoff
  rw [lift_bind]
  unfold St wP
  iintro ⟨#HC, ⟨Hx, Hw, HX, HO⟩, HA⟩
  iapply (wp_load 𝒱₀ (c : Thread nD τ) none Set.univ (m := wM) (Finset.subset_univ _)) $$ Hw; iintro Hw
  iapply h
  unfold St wP
  isplitr; · iexact HC
  isplitr [HA]
  · isplitl [Hx]; · iexact Hx
    isplitl [Hw]; · iexact Hw
    isplitl [HX] <;> iassumption
  iexact HA

/-- A load of the working copy before it is written: some value. -/
theorem step_load_xb_any {O A : sProp 𝕄} {Q : α → sProp 𝕄} {inb} {hl : xbM.view.LoadsAt (Rect.unit (s := S128x2048) ![0, 0] S128x2048.size inb).toLoadRect}
    {k : Vec F S128x2048 .bf16 → Prog (TpuEff nD τ sig (Elt F) Λ₀ .tc) α}
    (h : ∀ v, St m ρ K c (xbAny c) O A ⊢ run c (k v) Q) :
    St m ρ K c (xbAny c) O A ⊢ run c (Prog.lift (.load xbM (Rect.unit (s := S128x2048) ![0, 0] S128x2048.size inb).toLoadRect hl) >>= k) Q := by
  rw [lift_bind]
  unfold St xbAny
  iintro ⟨#HC, ⟨Hx, Hw, ⟨%f, HX⟩, HO⟩, HA⟩
  iapply (wp_load 𝒱₀ (c : Thread nD τ) none Set.univ (m := xbM) (Finset.subset_univ _)) $$ HX; iintro HX
  iapply (h _)
  unfold St xbAny
  isplitr; · iexact HC
  isplitr [HA]
  · isplitl [Hx]; · iexact Hx
    isplitl [Hw]; · iexact Hw
    isplitl [HX]; · iexists f; iexact HX
    iexact HO
  iexact HA

/-- The store of the `x` block in the working copy. -/
theorem step_store_xb {O A : sProp 𝕄} {Q : α → sProp 𝕄} {inb} {P : Vec F S128x2048 .bf16} (hP : P = xC m ρ c)
    {hx : (xbM.access (Rect.unit (s := S128x2048) ![0, 0] S128x2048.size inb)).Stores Finset.univ} {hm}
    {k : PUnit.{1} → Prog (TpuEff nD τ sig (Elt F) Λ₀ .tc) α}
    (h : St m ρ K c (xbX m ρ c) O A ⊢ run c (k ⟨⟩) Q) :
    St m ρ K c (xbAny c) O A
      ⊢ run c (Prog.lift (.store xbM (Rect.unit (s := S128x2048) ![0, 0] S128x2048.size inb) P Finset.univ hx hm) >>= k) Q := by
  subst hP
  rw [lift_bind]
  unfold St xbAny
  iintro ⟨#HC, ⟨Hx, Hw, ⟨%f, HX⟩, HO⟩, HA⟩
  iapply (wp_store 𝒱₀ (c : Thread nD τ) none Set.univ (m := xbM) (r := Rect.unit (s := S128x2048) ![0, 0] S128x2048.size inb) (Mk := Finset.univ)
    (Finset.subset_univ _)) $$ HX; iintro HX
  rw [show (xbM.access (Rect.unit (s := S128x2048) ![0, 0] S128x2048.size inb) : View sig .tc _ _ _).write (Elt F) f (xC m ρ c) Finset.univ = xC m ρ c from
    Memref.write_access_unit_zero_univ (Elt F) cc0_scratch0 zero2 _ f _]
  iapply h
  unfold St xbX
  isplitr; · iexact HC
  isplitr [HA]
  · isplitl [Hx]; · iexact Hx
    isplitl [Hw]; · iexact Hw
    isplitl [HX] <;> iassumption
  iexact HA

/-- A load of the working copy. -/
theorem step_load_xb {O A : sProp 𝕄} {Q : α → sProp 𝕄} {inb} {hl : xbM.view.LoadsAt (Rect.unit (s := S128x2048) ![0, 0] S128x2048.size inb).toLoadRect}
    {k : Vec F S128x2048 .bf16 → Prog (TpuEff nD τ sig (Elt F) Λ₀ .tc) α}
    (h : St m ρ K c (xbX m ρ c) O A ⊢ run c (k (xC m ρ c)) Q) :
    St m ρ K c (xbX m ρ c) O A ⊢ run c (Prog.lift (.load xbM (Rect.unit (s := S128x2048) ![0, 0] S128x2048.size inb).toLoadRect hl) >>= k) Q := by
  rw [lift_bind]
  have e : xbM.view.readAt (Elt F) (Rect.unit (s := S128x2048) ![0, 0] S128x2048.size inb).toLoadRect (xC m ρ c) = xC m ρ c :=
    Memref.readAt_unit_zero (Elt F) cc0_scratch0 zero2 _ _
  unfold St xbX
  iintro ⟨#HC, ⟨Hx, Hw, HX, HO⟩, HA⟩
  iapply (wp_load 𝒱₀ (c : Thread nD τ) none Set.univ (m := xbM) (Finset.subset_univ _)) $$ HX; iintro HX
  rw [e]
  iapply h
  unfold St xbX
  isplitr; · iexact HC
  isplitr [HA]
  · isplitl [Hx]; · iexact Hx
    isplitl [Hw]; · iexact Hw
    isplitl [HX] <;> iassumption
  iexact HA

/-- A load of any row block of the result: some value. -/
theorem step_load_out {D : Finset (Dev nD)} {X A : sProp 𝕄} {Q : α → sProp 𝕄} {r : LoadRect S2048x128} {hl : oM.view.LoadsAt r}
    {k : (r.shape.Idx → Elt F .f32) → Prog (TpuEff nD τ sig (Elt F) Λ₀ .tc) α}
    (h : ∀ v, St m ρ K c X (outP m ρ c D) A ⊢ run c (k v) Q) :
    St m ρ K c X (outP m ρ c D) A ⊢ run c (Prog.lift (.load oM r hl) >>= k) Q := by
  rw [lift_bind]
  unfold St outP
  iintro ⟨#HC, ⟨Hx, Hw, HX, ⟨%f, %hf, HO⟩⟩, HA⟩
  iapply (wp_load 𝒱₀ (c : Thread nD τ) none Set.univ (m := oM) (Finset.subset_univ _)) $$ HO; iintro HO
  iapply (h _)
  unfold St outP
  isplitr; · iexact HC
  isplitr [HA]
  · isplitl [Hx]; · iexact Hx
    isplitl [Hw]; · iexact Hw
    isplitl [HX]; · iexact HX
    iexists f
    isplitr; · ipureintro; exact hf
    iexact HO
  iexact HA

omit [FloatOps F] in
/-- Different row blocks share no element. -/
theorem row_disjoint {s t : Fin 16} (h : s ≠ t) : Disjoint (rowR s).set (rowR t).set :=
  Ring.lead_disjoint (s := S2048x128) (NB := 16) 0 128 (fun b => ![128 * b.val, 0]) S128x128.size rowInb (fun _ => rfl) rfl s t h

/-- The store of row block `s` of the result. -/
theorem step_store_out (s : Dev nD) {off : Fin 2 → Nat} {inb} (hoff : off = ![128 * s.val, 0]) {D : Finset (Dev nD)}
    {X A : sProp 𝕄} {Q : α → sProp 𝕄} {P : FVec F S128x128 .f32} (hP : P = extf .f32 (tile m ρ s c) bitsLt_bf16_f32)
    {hx : (oM.access (Rect.unit (s := S2048x128) off S128x128.size inb)).Stores Finset.univ} {hm}
    {k : PUnit.{1} → Prog (TpuEff nD τ sig (Elt F) Λ₀ .tc) α}
    (h : St m ρ K c X (outP m ρ c (insert s D)) A ⊢ run c (k ⟨⟩) Q) :
    St m ρ K c X (outP m ρ c D) A
      ⊢ run c (Prog.lift (.store oM (Rect.unit (s := S2048x128) off S128x128.size inb) P Finset.univ hx hm) >>= k) Q := by
  subst hP hoff
  rw [lift_bind]
  unfold St outP
  iintro ⟨#HC, ⟨Hx, Hw, HX, ⟨%f, %hf, HO⟩⟩, HA⟩
  iapply (wp_store 𝒱₀ (c : Thread nD τ) none Set.univ (m := oM) (r := rowR s) (Mk := Finset.univ)
    (Finset.subset_univ _)) $$ HO; iintro HO
  iapply h
  unfold St outP
  isplitr; · iexact HC
  isplitr [HA]
  · isplitl [Hx]; · iexact Hx
    isplitl [Hw]; · iexact Hw
    isplitl [HX]; · iexact HX
    iexists (oM.access (rowR s)).write (Elt F) f (extf .f32 (tile m ρ s c) bitsLt_bf16_f32) Finset.univ
    isplitr
    · ipureintro
      intro t ht
      by_cases e : t = s
      · subst e; exact View.read_write_univ _ _
      · rw [← hf t ((Finset.mem_insert.mp ht).resolve_left e)]
        refine View.read_slice_write_slice_of_disjoint (v := oM.view) (rowR t) (rowR s) f _ Finset.univ ?_
        rw [View.setOn_univ, View.set_slice_whole, View.set_slice_whole]
        exact row_disjoint e
    iexact HO
  iexact HA

/-! ## The slots of the send buffer -/

omit [FloatOps F] in
theorem slot_set (k : Fin 15) : (sbM.access (slotR k)).set = (sM k).view.set := (View.set_reshape _ _).symm

/-- A load of slot `j` before it is written: some value. -/
theorem step_load_slot (j : Fin 15) {off : Fin 3 → Nat} {inb} (hoff : off = ![j.val, 0, 0]) {X O G : sProp 𝕄} {Q : α → sProp 𝕄}
    {hl : sbM.view.LoadsAt (Rect.unit (s := S15x128x128) off S1x128x128.size inb).toLoadRect}
    {k : Vec F S1x128x128 .bf16 → Prog (TpuEff nD τ sig (Elt F) Λ₀ .tc) α}
    (h : ∀ v, St m ρ K c X O iprop(SlotSt c j.val ∗ G) ⊢ run c (k v) Q) :
    St m ρ K c X O iprop(SlotSt c j.val ∗ G)
      ⊢ run c (Prog.lift (.load sbM (Rect.unit (s := S15x128x128) off S1x128x128.size inb).toLoadRect hl) >>= k) Q := by
  subst hoff
  rw [lift_bind]
  unfold St SlotSt sAny sPts
  rw [ge_take _ j.isLt]
  iintro ⟨#HC, HM, ⟨⟨⟨⟨%f, Hs⟩, Ht⟩, Hr⟩, Hd⟩, HG⟩
  iapply (wp_load_rect 𝒱₀ (c : Thread nD τ) none Set.univ (m := sbM) (r := slotR j) (S := (sM j).view.set)
    (by rw [slot_set])) $$ Hs; iintro Hs
  iapply (h _)
  unfold St SlotSt sAny sPts
  rw [ge_take _ j.isLt]
  isplitr; · iexact HC
  isplitl [HM]; · iexact HM
  isplitr [HG]
  · isplitr [Hd]
    · isplitr [Hr]
      · isplitl [Hs]; · iexists f; iexact Hs
        iexact Ht
      iexact Hr
    iexact Hd
  iexact HG

/-- The store of a tile in slot `j`. -/
theorem step_store_slot (j : Fin 15) {off : Fin 3 → Nat} {inb} (hoff : off = ![j.val, 0, 0]) {X O G : sProp 𝕄} {Q : α → sProp 𝕄}
    {P : FVec F S1x128x128 .bf16} (hP : P = shapeCast S1x128x128 (tile m ρ c (dst c j)) shapeCasts_S128x128_S1x128x128)
    {hx : (sbM.access (Rect.unit (s := S15x128x128) off S1x128x128.size inb)).Stores Finset.univ} {hm}
    {k : PUnit.{1} → Prog (TpuEff nD τ sig (Elt F) Λ₀ .tc) α}
    (h : St m ρ K c X O iprop(SlotSt' m ρ c j ∗ G) ⊢ run c (k ⟨⟩) Q) :
    St m ρ K c X O iprop(SlotSt c j.val ∗ G)
      ⊢ run c (Prog.lift (.store sbM (Rect.unit (s := S15x128x128) off S1x128x128.size inb) P Finset.univ hx hm) >>= k) Q := by
  subst hP hoff
  rw [lift_bind]
  unfold St SlotSt sAny sPts
  rw [ge_take _ j.isLt]
  iintro ⟨#HC, HM, ⟨⟨⟨⟨%f, Hs⟩, Ht⟩, Hr⟩, Hd⟩, HG⟩
  iapply (wp_store 𝒱₀ (c : Thread nD τ) none Set.univ (m := sbM) (r := slotR j) (Mk := Finset.univ) (S := (sM j).view.set)
    (by rw [View.setOn_univ, slot_set])) $$ Hs; iintro Hs
  iapply h
  unfold St SlotSt' sTile sAny sPts
  isplitr; · iexact HC
  isplitl [HM]; · iexact HM
  isplitr [HG]
  · isplitr [Hr Hd]
    · isplitl [Hs]
      · iexists (sbM.access (slotR j)).write (Elt F) f (shapeCast S1x128x128 (tile m ρ c (dst c j)) shapeCasts_S128x128_S1x128x128) Finset.univ
        isplitr
        · ipureintro
          refine (Memref.read_squeeze_slice (Val := Elt F) sbM (slotR j) (fun _ => rfl) squeezes_S1x128x128_S128x128 shapeCasts_S1x128x128_S128x128 _).trans ?_
          refine (congrArg (fun v => shapeCast S128x128 v shapeCasts_S1x128x128_S128x128) (View.read_write_univ (v := sbM.access (slotR j)) f _)).trans ?_
          exact shapeCast_shapeCast _ _ _
        iexact Hs
      iexact Ht
    isplitl [Hr] <;> iassumption
  iexact HG

/-- The transfer of slot `j` to the device it is for. -/
theorem step_send (j : Fin 15) (d0 : Dev nD) (hd : d0 = dst c j) {offS : Fin 3 → Nat} {inbS} (hoffS : offS = ![j.val, 0, 0])
    {off : Fin 2 → Nat} {inb} (hoff : off = ![128 * c.val, 0]) {sS sR : DmaSem sig} (hS : sS = sendS j) (hR : sR = recvS j)
    {X O G : sProp 𝕄} {Q : α → sProp 𝕄} {hsc} {hsrc} {hdst} {hsem}
    {k : PUnit.{1} → Prog (TpuEff nD τ sig (Elt F) Λ₀ .tc) α}
    (h : St m ρ K c X O iprop(SlotSt c (j.val + 1) ∗ Rem c (j.val + 1) ∗ G) ⊢ run c (k ⟨⟩) Q) :
    St m ρ K c X O iprop(SlotSt' m ρ c j ∗ Rem c j.val ∗ G)
      ⊢ run c (Prog.lift (.enqueueDma ((sbM.slice (Rect.unit (s := S15x128x128) offS S1x128x128.size inbS) (fun _ => rfl)).squeeze S128x128 squeezes_S1x128x128_S128x128)
          (.remote (Dev.tc d0) (gbM.slice (Rect.unit (s := S2048x128) off S128x128.size inb) (fun _ => rfl)) (.dma sS) hsc) (.dma sR) hsrc hdst hsem) >>= k) Q := by
  subst hd hoffS hoff hS hR
  rw [lift_bind]
  unfold St SlotSt' Rem sTile gAny sPts gPts ow
  rw [ge_take _ j.isLt]
  iintro ⟨#HC, HM, ⟨⟨⟨%fs, %hfs, Hs⟩, Ht⟩, Hr, Hd⟩, ⟨⟨%W, HO⟩, ⟨⟨Htr, ⟨%fd, Hg⟩⟩, Hrr⟩, Hat⟩, HG⟩
  iapply (Rounds.wp_send_pointsTo 𝒱₀ ER (rd m ρ) (c : Thread nD τ) none (c' := (dst c j : Thread nD τ)) (src := sM j) (dst := gM c)
    (κ₁ := K (c, some (false, j))) (κ₂ := K (dst c j, some (true, j)))
    (r₁ := 0) (r₂ := 0) (d₁ := 0) (d₂ := 0) (fs := fs) (fd := fd)
    (by rw [duties_send]; exact Finset.mem_singleton_self _) (by rw [duties_recv]; exact Finset.mem_singleton_self _)
    () () N rfl (amount_send m ρ c j 0) (amount_recv m ρ (dst c j) j 0) (O₀ := Orecv c j.val) (Orecv c (j.val + 1)) (Orecv_head c j.isLt) (W := W)
    (by rw [payload_send]; unfold sAny sPts; iintro H; iexists fs; iexact H)
    (by
      rw [payload_recv, src_dst]; unfold gTile gPts
      iintro H; iexists (gM c).view.write (Elt F) fd ((sM j).view.read (Elt F) fs) Finset.univ
      isplitr
      · ipureintro; exact (View.read_write_univ _ _).trans hfs
      iexact H)) $$ [Hs Ht HO Htr Hg]
  · isplitr; · iapply (Ctx_inv m ρ K (c, some (false, j))); iexact HC
    isplitr; · iapply (Ctx_inv m ρ K (dst c j, some (true, j))); iexact HC
    isplitl [Hs]; · iexact Hs
    isplitl [Hg]; · iexact Hg
    isplitl [HO]; · iexact HO
    isplitl [Ht]; · iexact Ht
    isplitr; · iapply (Ctx_reached m ρ K (c, some (false, j))); iexact HC
    isplitl [Htr]; · iexact Htr
    iapply (Ctx_reached m ρ K (dst c j, some (true, j))); iexact HC
  iintro ⟨Hc, HO⟩
  iapply h
  unfold St SlotSt Rem sAny gAny sPts gPts ow
  rw [lt_add _ j.isLt]
  isplitr; · iexact HC
  isplitl [HM]; · iexact HM
  isplitl [Hr Hd Hc]
  · isplitl [Hr]; · iexact Hr
    isplitl [Hc] <;> iassumption
  isplitr [HG]
  · isplitl [HO]; · iexists W; iexact HO
    isplitl [Hrr] <;> iassumption
  iexact HG

/-! ## Receiving -/

/-- The wait for receive cell `n`: the row block comes with the tile. -/
theorem step_recv (n : Fin 15) {sR : DmaSem sig} (hR : sR = recvS n) {sp sp' : Space} {s s' : Shape} {e e' : EltTy}
    {srcM : Memref sig .tc sp' s' e'} {dstM : Memref sig .tc sp s e} (hN : dstM.view.dmaCredit = N)
    {X O G : sProp 𝕄} {Q : α → sProp 𝕄} {h1} {h2} {k : PUnit.{1} → Prog (TpuEff nD τ sig (Elt F) Λ₀ .tc) α}
    (h : St m ρ K c X O iprop(RecvSt' m ρ c n ∗ G) ⊢ run c (k ⟨⟩) Q) :
    St m ρ K c X O iprop(RecvSt c n.val ∗ G) ⊢ run c (Prog.lift (.waitDma2 sR srcM dstM h1 h2) >>= k) Q := by
  subst hR
  rw [lift_bind]
  unfold St RecvSt ow
  rw [ge_take _ n.isLt]
  iintro ⟨#HC, HM, ⟨⟨%W, HO⟩, ⟨⟨Hc, Hat⟩, Hr⟩, Hd⟩, HG⟩
  iapply (Rounds.wp_wait_rest_token 𝒱₀ ER (rd m ρ) (c : Thread nD τ) none (κ := K (c, some (true, n)))
      (wpE_waitDma2_eq 𝒱₀ (c : Thread nD τ) none Set.univ) (Set.mem_univ _) () (O := 0) (W := W) (R := 0) (m := 0) (T := ∅)
      (by rw [Nat.zero_add, expect_recv]; exact hN)) $$ [Hc HO Hat]
  · isplitr; · iapply (Ctx_inv m ρ K (c, some (true, n))); iexact HC
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c n)) $$ Hpay
  iapply h
  unfold St RecvSt' ow
  isplitr; · iexact HC
  isplitl [HM]; · iexact HM
  isplitr [HG]
  · isplitl [Hp Hat]
    · isplitl [Hp]; · iexact Hp
      iexact Hat
    isplitl [HO]; · iexists _; iexact HO
    isplitl [Hr] <;> iassumption
  iexact HG

/-- The load of the received row block: the tile its sender made. -/
theorem step_load_recv (n : Fin 15) {off : Fin 2 → Nat} {inb} (hoff : off = ![128 * (src c n).val, 0]) {X O G : sProp 𝕄} {Q : α → sProp 𝕄}
    {hl : gbM.view.LoadsAt (Rect.unit (s := S2048x128) off S128x128.size inb).toLoadRect}
    {k : Vec F S128x128 .bf16 → Prog (TpuEff nD τ sig (Elt F) Λ₀ .tc) α}
    (h : St m ρ K c X O iprop(RecvSt c (n.val + 1) ∗ G) ⊢ run c (k (tile m ρ (src c n) c)) Q) :
    St m ρ K c X O iprop(RecvSt' m ρ c n ∗ G)
      ⊢ run c (Prog.lift (.load gbM (Rect.unit (s := S2048x128) off S128x128.size inb).toLoadRect hl) >>= k) Q := by
  subst hoff
  rw [lift_bind]
  unfold St RecvSt' gTile gPts
  iintro ⟨#HC, HM, ⟨⟨⟨%f, %hf, Hg⟩, Hat⟩, HO, Hr, Hd⟩, HG⟩
  iapply (wp_load_rect 𝒱₀ (c : Thread nD τ) none Set.univ (m := gbM) (r := rowR (src c n)) (S := (gM (src c n)).view.set)
    (Finset.Subset.refl _)) $$ Hg; iintro Hg
  rw [show (gbM.access (rowR (src c n))).read (Elt F) f = tile m ρ (src c n) c from hf]
  iapply h
  unfold St RecvSt gAny gPts
  rw [lt_add _ n.isLt]
  isplitr; · iexact HC
  isplitl [HM]; · iexact HM
  isplitr [HG]
  · isplitl [HO]; · iexact HO
    isplitl [Hr]; · iexact Hr
    isplitr [Hd]
    · isplitl [Hg]; · iexists f; iexact Hg
      iexact Hat
    iexact Hd
  iexact HG

/-- The wait for send cell `n`: the slot is back. -/
theorem step_sent (n : Fin 15) {sS : DmaSem sig} (hS : sS = sendS n) {sp sp' : Space} {s s' : Shape} {e e' : EltTy}
    {srcM : Memref sig .tc sp' s' e'} {dstM : Memref sig .tc sp s e} (hN : dstM.view.dmaCredit = N)
    {X O G : sProp 𝕄} {Q : α → sProp 𝕄} {h1} {h2} {k : PUnit.{1} → Prog (TpuEff nD τ sig (Elt F) Λ₀ .tc) α}
    (h : St m ρ K c X O iprop(SendSt c (n.val + 1) ∗ G) ⊢ run c (k ⟨⟩) Q) :
    St m ρ K c X O iprop(SendSt c n.val ∗ G) ⊢ run c (Prog.lift (.waitDma2 sS srcM dstM h1 h2) >>= k) Q := by
  subst hS
  rw [lift_bind]
  unfold St SendSt ow
  rw [ge_take _ n.isLt]
  iintro ⟨#HC, HM, ⟨⟨%W, HO⟩, ⟨⟨Hc, Hat⟩, Hr⟩, Hd⟩, HG⟩
  iapply (Rounds.wp_wait_rest_token 𝒱₀ ER (rd m ρ) (c : Thread nD τ) none (κ := K (c, some (false, n)))
      (wpE_waitDma2_eq 𝒱₀ (c : Thread nD τ) none Set.univ) (Set.mem_univ _) () (O := 0) (W := W) (R := 0) (m := 0) (T := ∅)
      (by rw [Nat.zero_add, expect_send]; exact hN)) $$ [Hc HO Hat]
  · isplitr; · iapply (Ctx_inv m ρ K (c, some (false, n))); iexact HC
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c n)) $$ Hpay
  iapply h
  unfold St SendSt ow
  rw [lt_add _ n.isLt]
  isplitr; · iexact HC
  isplitl [HM]; · iexact HM
  isplitr [HG]
  · isplitl [HO]; · iexists _; iexact HO
    isplitl [Hr]; · iexact Hr
    isplitl [Hp Hat]
    · isplitl [Hp]; · iexact Hp
      iexact Hat
    iexact Hd
  iexact HG

/-! ## Reading the device's number, and returning -/

/-- Reading the device's number gives `c`. -/
theorem step_deviceId {X O A : sProp 𝕄} {Q : α → sProp 𝕄} {k : Dev nD → Prog (TpuEff nD τ sig (Elt F) Λ₀ .tc) α}
    (h : St m ρ K c X O A ⊢ run c (k c) Q) : St m ρ K c X O A ⊢ run c (Prog.lift .deviceId >>= k) Q := by
  have e : (run c (Prog.lift .deviceId >>= k) Q : sProp 𝕄) = run c (k c) Q := by
    simp only [lift_bind, wp_deviceId]
  rw [e]; exact h

omit m ρ K in
/-- Returning a value leaves the state as it is. -/
theorem step_ret {S : sProp 𝕄} {Q : α → sProp 𝕄} {a : α} (h : S ⊢ Q a) : S ⊢ run c (pure a) Q := by
  have e : (run c (pure a) Q : sProp 𝕄) = iprop(|={Set.univ}[frame]=> Q a) := rfl
  rw [e]
  iintro H
  imodintro
  iapply h; iexact H

omit m ρ K in
/-- A program followed by another: the second runs from what the first ends in. -/
theorem step_bind {β : Type} {S : sProp 𝕄} {Q : α → sProp 𝕄} {p : Prog (TpuEff nD τ sig (Elt F) Λ₀ .tc) β}
    {k : β → Prog (TpuEff nD τ sig (Elt F) Λ₀ .tc) α} (h : S ⊢ run c p (fun b => run c (k b) Q)) : S ⊢ run c (p >>= k) Q := by
  have e : (run c (p >>= k) Q : sProp 𝕄) = run c p (fun b => run c (k b) Q) := wp_bind _ _ _ _ _ _
  rw [e]; exact h

/-- The phase's resources may be weakened. -/
theorem step_conv {X O A A' : sProp 𝕄} {R : sProp 𝕄} (hA : A ⊢ A') (h : St m ρ K c X O A' ⊢ R) : St m ρ K c X O A ⊢ R := by
  have e : St m ρ K c X O A ⊢ St m ρ K c X O A' := by
    unfold St
    iintro ⟨HC, HM, HA⟩
    isplitl [HC]; · iexact HC
    isplitl [HM]; · iexact HM
    iapply hA; iexact HA
  exact BI.BIBase.Entails.trans e h

end Steps

/-! ## The offsets and payloads the printed program passes -/

/-- The column block of `w` slot `j` multiplies by, `n` the distance it travels: its destination's. -/
theorem off_w (c : Dev nD) (j : Fin 15) (n : ℕ) (h : n = (ord j).val + 1) : k0_off1 c (BitVec.ofNat 32 n) = ![0, 128 * (dst c j).val] := by
  subst h
  have hj : (ord j).val < 15 := (ord j).isLt
  have h : (ord j).val + 1 < 16 := by omega
  exact k0_off1_eq c (⟨(ord j).val + 1, h⟩ : Fin 16)
/-- The device's own column block. -/
theorem off_w_own (c : Dev nD) : k0_off1 c 0#32 = ![0, 128 * c.val] := by
  refine (k0_off1_eq c 0).trans ?_
  rw [show (c.val + ((0 : Fin 16)).val) % 16 = c.val from Nat.mod_eq_of_lt c.isLt]
/-- The row block receive cell `j` is for, `n` the distance it comes from: its sender's. -/
theorem off_r (c : Dev nD) (j : Fin 15) (n : ℕ) (h : n = 1 + (ord j).val) : k0_off5 c (BitVec.ofNat 32 n) = ![128 * (src c j).val, 0] := by
  subst h; exact k0_off5_eq c (ord j)

/-- The stored copy of the `x` block is the block loaded. -/
theorem pay1_id (v : Vec F S128x2048 .bf16) : k0_pay1 (F := F) v = v := by
  unfold k0_pay1; exact (shapeCast_self _ _).trans (shapeCast_self _ _)

end Cert.KernelIdeal.A2A

end
-- ==== Proof.Parts.lean ====
/-
# The body's twenty-eight parts

One theorem per part of the printed body: the state before it, the state and the returned values after it. Each proof is the
part's effects in order, one step lemma each.
-/
module

public import proofs.«01_k».proof.Proof.Steps

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- Part 1 of the body: signals 0, 1, 2, 3, 4 are sent. -/
theorem part1 {G : sProp 𝕄} {D : Finset (Dev nD)} {Q : _ → sProp 𝕄}
    (h : ∀ a b : BitVec 32, St m ρ K c (xbAny c) (outP m ρ c D) iprop(SigSt c 5 ∗ G) ⊢ Q ⟨c, a, SemArray.scalar (sig.barrier 0 rfl), b, 16#32⟩) :
    St m ρ K c (xbAny c) (outP m ρ c D) iprop(SigSt c 0 ∗ G)
      ⊢ run c (k0_part1 (F := F) xM (Memref.isWhole_whole _) wM (Memref.isWhole_whole _) oM (Memref.isWhole_whole _) xbM (Memref.isWhole_whole _) sbM (Memref.isWhole_whole _) gbM (Memref.isWhole_whole _) cc0_scratch3 cc0_scratch4) Q := by
  rw [k0_part1_eq_skeleton]; unfold k0_part1_skel; dsimp only
  refine step_deviceId m ρ K c ?_
  refine step_signal m ρ K c ⟨0, by decide⟩ _ (Fin.ext (k0_dev1_eq c)) rfl ?_
  refine step_signal m ρ K c ⟨1, by decide⟩ _ (Fin.ext (k0_dev2_eq c)) rfl ?_
  refine step_signal m ρ K c ⟨2, by decide⟩ _ (Fin.ext (k0_dev3_eq c)) rfl ?_
  refine step_signal m ρ K c ⟨3, by decide⟩ _ (Fin.ext (k0_dev4_eq c)) rfl ?_
  refine step_signal m ρ K c ⟨4, by decide⟩ _ (Fin.ext (k0_dev5_eq c)) rfl ?_
  exact step_ret c (h _ _)

/-- Part 2 of the body: signals 5, 6, 7, 8, 9, 10 are sent. -/
theorem part2 {G : sProp 𝕄} {D : Finset (Dev nD)} {Q : _ → sProp 𝕄} {v2 v24 c16_i32_20 : BitVec 32}
    (h : ∀ a b : BitVec 32, St m ρ K c (xbAny c) (outP m ρ c D) iprop(SigSt c 11 ∗ G) ⊢ Q ⟨a, b⟩) :
    St m ρ K c (xbAny c) (outP m ρ c D) iprop(SigSt c 5 ∗ G)
      ⊢ run c (k0_part2 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 (SemArray.scalar (sig.barrier 0 rfl)) v24 c16_i32_20) Q := by
  rw [k0_part2_eq_skeleton]; unfold k0_part2_skel; dsimp only
  refine step_signal m ρ K c ⟨5, by decide⟩ _ (Fin.ext (k0_dev6_eq c)) rfl ?_
  refine step_signal m ρ K c ⟨6, by decide⟩ _ (Fin.ext (k0_dev7_eq c)) rfl ?_
  refine step_signal m ρ K c ⟨7, by decide⟩ _ (Fin.ext (k0_dev8_eq c)) rfl ?_
  refine step_signal m ρ K c ⟨8, by decide⟩ _ (Fin.ext (k0_dev9_eq c)) rfl ?_
  refine step_signal m ρ K c ⟨9, by decide⟩ _ (Fin.ext (k0_dev10_eq c)) rfl ?_
  refine step_signal m ρ K c ⟨10, by decide⟩ _ (Fin.ext (k0_dev11_eq c)) rfl ?_
  exact step_ret c (h _ _)

/-- Part 3 of the body: signals 11, 12, 13, 14 are sent; the working copy is written. -/
theorem part3 {G : sProp 𝕄} {D : Finset (Dev nD)} {Q : _ → sProp 𝕄} {v2 v48 c16_i32_44 : BitVec 32}
    (h : ∀ a : BitVec 32, St m ρ K c (xbX m ρ c) (outP m ρ c D) iprop(SigSt c 15 ∗ G) ⊢ Q ⟨a, k0_pay2 (wcol (wC m ρ c) (dst c ⟨0, by decide⟩)), xC m ρ c⟩) :
    St m ρ K c (xbAny c) (outP m ρ c D) iprop(SigSt c 11 ∗ G)
      ⊢ run c (k0_part3 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 (SemArray.scalar (sig.barrier 0 rfl)) v48 c16_i32_44) Q := by
  rw [k0_part3_eq_skeleton]; unfold k0_part3_skel; dsimp only
  refine step_signal m ρ K c ⟨11, by decide⟩ _ (Fin.ext (k0_dev12_eq c)) rfl ?_
  refine step_signal m ρ K c ⟨12, by decide⟩ _ (Fin.ext (k0_dev13_eq c)) rfl ?_
  refine step_signal m ρ K c ⟨13, by decide⟩ _ (Fin.ext (k0_dev14_eq c)) rfl ?_
  refine step_signal m ρ K c ⟨14, by decide⟩ _ (Fin.ext (k0_dev15_eq c)) rfl ?_
  refine step_load_x m ρ K c ?_
  refine step_load_xb_any m ρ K c fun v66 => ?_
  refine step_store_xb m ρ K c (pay1_id _) ?_
  refine step_load_w m ρ K c (dst c ⟨0, by decide⟩) (off_w c ⟨0, by decide⟩ 8 (by decide)) ?_
  refine step_load_xb m ρ K c ?_
  exact step_ret c (h _)

/-- Part 4 of the body: slot 0 written; the fifteen signals awaited; slot 0 sent. -/
theorem part4 {G : sProp 𝕄} {D : Finset (Dev nD)} {Q : _ → sProp 𝕄} {v2 v70 : BitVec 32}
    (h : ∀ a : BitVec 32, St m ρ K c (xbX m ρ c) (outP m ρ c D) iprop(SlotSt c 1 ∗ Rem c 1 ∗ G) ⊢ Q ⟨a, tile m ρ c (dst c ⟨1, by decide⟩)⟩) :
    St m ρ K c (xbX m ρ c) (outP m ρ c D) iprop(SlotSt c 0 ∗ RemB c ∗ G)
      ⊢ run c (k0_part4 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 (SemArray.scalar (sig.barrier 0 rfl)) v70 (k0_pay2 (wcol (wC m ρ c) (dst c ⟨0, by decide⟩))) (xC m ρ c)) Q := by
  rw [k0_part4_eq_skeleton]; unfold k0_part4_skel; dsimp only
  refine step_load_slot m ρ K c ⟨0, by decide⟩ rfl fun v80 => ?_
  refine step_store_slot m ρ K c ⟨0, by decide⟩ rfl rfl ?_
  refine step_barrier m ρ K c rfl ?_
  refine step_send m ρ K c ⟨0, by decide⟩ _ (Fin.ext (k0_dev16_eq c)) rfl (k0_off2_eq c) rfl rfl ?_
  refine step_load_w m ρ K c (dst c ⟨1, by decide⟩) (off_w c ⟨1, by decide⟩ 7 (by decide)) ?_
  refine step_load_xb m ρ K c ?_
  refine step_load_slot m ρ K c ⟨1, by decide⟩ rfl fun v104 => ?_
  exact step_ret c (h _)

/-- Part 5 of the body: slots 1, 2 written; slot 1 sent. -/
theorem part5 {G : sProp 𝕄} {D : Finset (Dev nD)} {Q : _ → sProp 𝕄} {v2 v94 : BitVec 32}
    (h : St m ρ K c (xbX m ρ c) (outP m ρ c D) iprop(SlotSt' m ρ c ⟨2, by decide⟩ ∗ Rem c 2 ∗ G) ⊢ Q ⟨⟩) :
    St m ρ K c (xbX m ρ c) (outP m ρ c D) iprop(SlotSt c 1 ∗ Rem c 1 ∗ G)
      ⊢ run c (k0_part5 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v94 (tile m ρ c (dst c ⟨1, by decide⟩))) Q := by
  rw [k0_part5_eq_skeleton]; unfold k0_part5_skel; dsimp only
  refine step_store_slot m ρ K c ⟨1, by decide⟩ rfl rfl ?_
  refine step_send m ρ K c ⟨1, by decide⟩ _ (Fin.ext (k0_dev17_eq c)) rfl (k0_off2_eq c) rfl rfl ?_
  refine step_load_w m ρ K c (dst c ⟨2, by decide⟩) (off_w c ⟨2, by decide⟩ 9 (by decide)) ?_
  refine step_load_xb m ρ K c ?_
  refine step_load_slot m ρ K c ⟨2, by decide⟩ rfl fun v128 => ?_
  refine step_store_slot m ρ K c ⟨2, by decide⟩ rfl rfl ?_
  exact step_ret c h

/-- Part 6 of the body: slot 3 written; slots 2, 3 sent. -/
theorem part6 {G : sProp 𝕄} {D : Finset (Dev nD)} {Q : _ → sProp 𝕄} {v2 : BitVec 32}
    (h : ∀ a b : BitVec 32, St m ρ K c (xbX m ρ c) (outP m ρ c D) iprop(SlotSt c 4 ∗ Rem c 4 ∗ G) ⊢ Q ⟨a, b⟩) :
    St m ρ K c (xbX m ρ c) (outP m ρ c D) iprop(SlotSt' m ρ c ⟨2, by decide⟩ ∗ Rem c 2 ∗ G)
      ⊢ run c (k0_part6 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2) Q := by
  rw [k0_part6_eq_skeleton]; unfold k0_part6_skel; dsimp only
  refine step_send m ρ K c ⟨2, by decide⟩ _ (Fin.ext (k0_dev18_eq c)) rfl (k0_off2_eq c) rfl rfl ?_
  refine step_load_w m ρ K c (dst c ⟨3, by decide⟩) (off_w c ⟨3, by decide⟩ 6 (by decide)) ?_
  refine step_load_xb m ρ K c ?_
  refine step_load_slot m ρ K c ⟨3, by decide⟩ rfl fun v152 => ?_
  refine step_store_slot m ρ K c ⟨3, by decide⟩ rfl rfl ?_
  refine step_send m ρ K c ⟨3, by decide⟩ _ (Fin.ext (k0_dev19_eq c)) rfl (k0_off2_eq c) rfl rfl ?_
  exact step_ret c (h _ _)

/-- Part 7 of the body: slot 4 written; slot 4 sent. -/
theorem part7 {G : sProp 𝕄} {D : Finset (Dev nD)} {Q : _ → sProp 𝕄} {v2 v166 v167 : BitVec 32}
    (h : ∀ a : BitVec 32, St m ρ K c (xbX m ρ c) (outP m ρ c D) iprop(SlotSt c 5 ∗ Rem c 5 ∗ G) ⊢ Q ⟨a, tile m ρ c (dst c ⟨5, by decide⟩)⟩) :
    St m ρ K c (xbX m ρ c) (outP m ρ c D) iprop(SlotSt c 4 ∗ Rem c 4 ∗ G)
      ⊢ run c (k0_part7 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v166 v167) Q := by
  rw [k0_part7_eq_skeleton]; unfold k0_part7_skel; dsimp only
  refine step_load_w m ρ K c (dst c ⟨4, by decide⟩) (off_w c ⟨4, by decide⟩ 10 (by decide)) ?_
  refine step_load_xb m ρ K c ?_
  refine step_load_slot m ρ K c ⟨4, by decide⟩ rfl fun v176 => ?_
  refine step_store_slot m ρ K c ⟨4, by decide⟩ rfl rfl ?_
  refine step_send m ρ K c ⟨4, by decide⟩ _ (Fin.ext (k0_dev20_eq c)) rfl (k0_off2_eq c) rfl rfl ?_
  refine step_load_w m ρ K c (dst c ⟨5, by decide⟩) (off_w c ⟨5, by decide⟩ 5 (by decide)) ?_
  refine step_load_xb m ρ K c ?_
  exact step_ret c (h _)

/-- Part 8 of the body: slots 5, 6 written; slot 5 sent. -/
theorem part8 {G : sProp 𝕄} {D : Finset (Dev nD)} {Q : _ → sProp 𝕄} {v2 v190 : BitVec 32}
    (h : ∀ a b : BitVec 32, St m ρ K c (xbX m ρ c) (outP m ρ c D) iprop(SlotSt' m ρ c ⟨6, by decide⟩ ∗ Rem c 6 ∗ G) ⊢ Q ⟨a, b⟩) :
    St m ρ K c (xbX m ρ c) (outP m ρ c D) iprop(SlotSt c 5 ∗ Rem c 5 ∗ G)
      ⊢ run c (k0_part8 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v190 (tile m ρ c (dst c ⟨5, by decide⟩))) Q := by
  rw [k0_part8_eq_skeleton]; unfold k0_part8_skel; dsimp only
  refine step_load_slot m ρ K c ⟨5, by decide⟩ rfl fun v200 => ?_
  refine step_store_slot m ρ K c ⟨5, by decide⟩ rfl rfl ?_
  refine step_send m ρ K c ⟨5, by decide⟩ _ (Fin.ext (k0_dev21_eq c)) rfl (k0_off2_eq c) rfl rfl ?_
  refine step_load_w m ρ K c (dst c ⟨6, by decide⟩) (off_w c ⟨6, by decide⟩ 11 (by decide)) ?_
  refine step_load_xb m ρ K c ?_
  refine step_load_slot m ρ K c ⟨6, by decide⟩ rfl fun v224 => ?_
  refine step_store_slot m ρ K c ⟨6, by decide⟩ rfl rfl ?_
  exact step_ret c (h _ _)

/-- Part 9 of the body: slot 7 written; slots 6, 7 sent. -/
theorem part9 {G : sProp 𝕄} {D : Finset (Dev nD)} {Q : _ → sProp 𝕄} {v2 v228 c0_i32_192 : BitVec 32}
    (h : ∀ a : BitVec 32, St m ρ K c (xbX m ρ c) (outP m ρ c D) iprop(SlotSt c 8 ∗ Rem c 8 ∗ G) ⊢ Q a) :
    St m ρ K c (xbX m ρ c) (outP m ρ c D) iprop(SlotSt' m ρ c ⟨6, by decide⟩ ∗ Rem c 6 ∗ G)
      ⊢ run c (k0_part9 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v228 c0_i32_192) Q := by
  rw [k0_part9_eq_skeleton]; unfold k0_part9_skel; dsimp only
  refine step_send m ρ K c ⟨6, by decide⟩ _ (Fin.ext (k0_dev22_eq c)) rfl (k0_off2_eq c) rfl rfl ?_
  refine step_load_w m ρ K c (dst c ⟨7, by decide⟩) (off_w c ⟨7, by decide⟩ 4 (by decide)) ?_
  refine step_load_xb m ρ K c ?_
  refine step_load_slot m ρ K c ⟨7, by decide⟩ rfl fun v248 => ?_
  refine step_store_slot m ρ K c ⟨7, by decide⟩ rfl rfl ?_
  refine step_send m ρ K c ⟨7, by decide⟩ _ (Fin.ext (k0_dev23_eq c)) rfl (k0_off2_eq c) rfl rfl ?_
  exact step_ret c (h _)

/-- Part 10 of the body: slot 8 written; slot 8 sent. -/
theorem part10 {G : sProp 𝕄} {D : Finset (Dev nD)} {Q : _ → sProp 𝕄} {v2 v261 : BitVec 32}
    (h : ∀ a : BitVec 32, St m ρ K c (xbX m ρ c) (outP m ρ c D) iprop(SlotSt c 9 ∗ Rem c 9 ∗ G) ⊢ Q ⟨a, k0_pay14 (wcol (wC m ρ c) (dst c ⟨9, by decide⟩)) (xC m ρ c), (Scalar.ofBits .f32 0x00000000#32)⟩) :
    St m ρ K c (xbX m ρ c) (outP m ρ c D) iprop(SlotSt c 8 ∗ Rem c 8 ∗ G)
      ⊢ run c (k0_part10 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v261) Q := by
  rw [k0_part10_eq_skeleton]; unfold k0_part10_skel; dsimp only
  refine step_load_w m ρ K c (dst c ⟨8, by decide⟩) (off_w c ⟨8, by decide⟩ 12 (by decide)) ?_
  refine step_load_xb m ρ K c ?_
  refine step_load_slot m ρ K c ⟨8, by decide⟩ rfl fun v272 => ?_
  refine step_store_slot m ρ K c ⟨8, by decide⟩ rfl rfl ?_
  refine step_send m ρ K c ⟨8, by decide⟩ _ (Fin.ext (k0_dev24_eq c)) rfl (k0_off2_eq c) rfl rfl ?_
  refine step_load_w m ρ K c (dst c ⟨9, by decide⟩) (off_w c ⟨9, by decide⟩ 3 (by decide)) ?_
  refine step_load_xb m ρ K c ?_
  exact step_ret c (h _)

/-- Part 11 of the body: slots 9, 10 written; slot 9 sent. -/
theorem part11 {G : sProp 𝕄} {D : Finset (Dev nD)} {Q : _ → sProp 𝕄} {v2 v286 : BitVec 32}
    (h : ∀ a : BitVec 32, St m ρ K c (xbX m ρ c) (outP m ρ c D) iprop(SlotSt' m ρ c ⟨10, by decide⟩ ∗ Rem c 10 ∗ G) ⊢ Q a) :
    St m ρ K c (xbX m ρ c) (outP m ρ c D) iprop(SlotSt c 9 ∗ Rem c 9 ∗ G)
      ⊢ run c (k0_part11 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v286 (k0_pay14 (wcol (wC m ρ c) (dst c ⟨9, by decide⟩)) (xC m ρ c)) (Scalar.ofBits .f32 0x00000000#32)) Q := by
  rw [k0_part11_eq_skeleton]; unfold k0_part11_skel; dsimp only
  refine step_load_slot m ρ K c ⟨9, by decide⟩ rfl fun v296 => ?_
  refine step_store_slot m ρ K c ⟨9, by decide⟩ rfl rfl ?_
  refine step_send m ρ K c ⟨9, by decide⟩ _ (Fin.ext (k0_dev25_eq c)) rfl (k0_off2_eq c) rfl rfl ?_
  refine step_load_w m ρ K c (dst c ⟨10, by decide⟩) (off_w c ⟨10, by decide⟩ 13 (by decide)) ?_
  refine step_load_xb m ρ K c ?_
  refine step_load_slot m ρ K c ⟨10, by decide⟩ rfl fun v320 => ?_
  refine step_store_slot m ρ K c ⟨10, by decide⟩ rfl rfl ?_
  exact step_ret c (h _)

/-- Part 12 of the body: slot 11 written; slot 10 sent. -/
theorem part12 {G : sProp 𝕄} {D : Finset (Dev nD)} {Q : _ → sProp 𝕄} {v2 v310 : BitVec 32}
    (h : St m ρ K c (xbX m ρ c) (outP m ρ c D) iprop(SlotSt' m ρ c ⟨11, by decide⟩ ∗ Rem c 11 ∗ G) ⊢ Q ⟨⟩) :
    St m ρ K c (xbX m ρ c) (outP m ρ c D) iprop(SlotSt' m ρ c ⟨10, by decide⟩ ∗ Rem c 10 ∗ G)
      ⊢ run c (k0_part12 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v310) Q := by
  rw [k0_part12_eq_skeleton]; unfold k0_part12_skel; dsimp only
  refine step_send m ρ K c ⟨10, by decide⟩ _ (Fin.ext (k0_dev26_eq c)) rfl (k0_off2_eq c) rfl rfl ?_
  refine step_load_w m ρ K c (dst c ⟨11, by decide⟩) (off_w c ⟨11, by decide⟩ 2 (by decide)) ?_
  refine step_load_xb m ρ K c ?_
  refine step_load_slot m ρ K c ⟨11, by decide⟩ rfl fun v344 => ?_
  refine step_store_slot m ρ K c ⟨11, by decide⟩ rfl rfl ?_
  exact step_ret c h

/-- Part 13 of the body: slot 12 written; slots 11, 12 sent. -/
theorem part13 {G : sProp 𝕄} {D : Finset (Dev nD)} {Q : _ → sProp 𝕄} {v2 : BitVec 32}
    (h : ∀ a : BitVec 32, St m ρ K c (xbX m ρ c) (outP m ρ c D) iprop(SlotSt c 13 ∗ Rem c 13 ∗ G) ⊢ Q ⟨a, k0_pay19 (wcol (wC m ρ c) (dst c ⟨13, by decide⟩))⟩) :
    St m ρ K c (xbX m ρ c) (outP m ρ c D) iprop(SlotSt' m ρ c ⟨11, by decide⟩ ∗ Rem c 11 ∗ G)
      ⊢ run c (k0_part13 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2) Q := by
  rw [k0_part13_eq_skeleton]; unfold k0_part13_skel; dsimp only
  refine step_send m ρ K c ⟨11, by decide⟩ _ (Fin.ext (k0_dev27_eq c)) rfl (k0_off2_eq c) rfl rfl ?_
  refine step_load_w m ρ K c (dst c ⟨12, by decide⟩) (off_w c ⟨12, by decide⟩ 14 (by decide)) ?_
  refine step_load_xb m ρ K c ?_
  refine step_load_slot m ρ K c ⟨12, by decide⟩ rfl fun v368 => ?_
  refine step_store_slot m ρ K c ⟨12, by decide⟩ rfl rfl ?_
  refine step_send m ρ K c ⟨12, by decide⟩ _ (Fin.ext (k0_dev28_eq c)) rfl (k0_off2_eq c) rfl rfl ?_
  refine step_load_w m ρ K c (dst c ⟨13, by decide⟩) (off_w c ⟨13, by decide⟩ 1 (by decide)) ?_
  exact step_ret c (h _)

/-- Part 14 of the body: slots 13, 14 written; slot 13 sent. -/
theorem part14 {G : sProp 𝕄} {D : Finset (Dev nD)} {Q : _ → sProp 𝕄} {v2 v382 : BitVec 32}
    (h : ∀ a : BitVec 32, St m ρ K c (xbX m ρ c) (outP m ρ c D) iprop(SlotSt' m ρ c ⟨14, by decide⟩ ∗ Rem c 14 ∗ G) ⊢ Q a) :
    St m ρ K c (xbX m ρ c) (outP m ρ c D) iprop(SlotSt c 13 ∗ Rem c 13 ∗ G)
      ⊢ run c (k0_part14 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v382 (k0_pay19 (wcol (wC m ρ c) (dst c ⟨13, by decide⟩)))) Q := by
  rw [k0_part14_eq_skeleton]; unfold k0_part14_skel; dsimp only
  refine step_load_xb m ρ K c ?_
  refine step_load_slot m ρ K c ⟨13, by decide⟩ rfl fun v392 => ?_
  refine step_store_slot m ρ K c ⟨13, by decide⟩ rfl rfl ?_
  refine step_send m ρ K c ⟨13, by decide⟩ _ (Fin.ext (k0_dev29_eq c)) rfl (k0_off2_eq c) rfl rfl ?_
  refine step_load_w m ρ K c (dst c ⟨14, by decide⟩) (off_w c ⟨14, by decide⟩ 15 (by decide)) ?_
  refine step_load_xb m ρ K c ?_
  refine step_load_slot m ρ K c ⟨14, by decide⟩ rfl fun v416 => ?_
  refine step_store_slot m ρ K c ⟨14, by decide⟩ rfl rfl ?_
  exact step_ret c (h _)

/-- Part 15 of the body: slot 14 sent; the device's own row block of the result written. -/
theorem part15 {G : sProp 𝕄} {D : Finset (Dev nD)} {Q : _ → sProp 𝕄} {v2 v406 : BitVec 32}
    (h : ∀ a b e : BitVec 32, St m ρ K c (xbX m ρ c) (outP m ρ c (insert c D)) iprop(SlotSt c 15 ∗ Rem c 15 ∗ G) ⊢ Q ⟨a, b, e⟩) :
    St m ρ K c (xbX m ρ c) (outP m ρ c D) iprop(SlotSt' m ρ c ⟨14, by decide⟩ ∗ Rem c 14 ∗ G)
      ⊢ run c (k0_part15 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v406) Q := by
  rw [k0_part15_eq_skeleton]; unfold k0_part15_skel; dsimp only
  refine step_send m ρ K c ⟨14, by decide⟩ _ (Fin.ext (k0_dev30_eq c)) rfl (k0_off2_eq c) rfl rfl ?_
  refine step_load_w m ρ K c c (off_w_own c) ?_
  refine step_load_xb m ρ K c ?_
  refine step_load_out m ρ K c fun v443 => ?_
  refine step_store_out m ρ K c c (k0_off3_eq c) rfl ?_
  exact step_ret c (h _ _ _)

/-- Part 16 of the body: row blocks 0, 1 received; the result's row blocks from senders 0, 1 written. -/
theorem part16 {G : sProp 𝕄} {D : Finset (Dev nD)} {Q : _ → sProp 𝕄} {v2 v446 v448 c0_i32_366 : BitVec 32}
    (h : ∀ a : BitVec 32, St m ρ K c (xbX m ρ c) (outP m ρ c (insert (src c ⟨1, by decide⟩) (insert (src c ⟨0, by decide⟩) D))) iprop(RecvSt c 2 ∗ G) ⊢ Q a) :
    St m ρ K c (xbX m ρ c) (outP m ρ c D) iprop(RecvSt c 0 ∗ G)
      ⊢ run c (k0_part16 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v446 v448 c0_i32_366) Q := by
  rw [k0_part16_eq_skeleton]; unfold k0_part16_skel; dsimp only
  refine step_recv m ρ K c ⟨0, by decide⟩ rfl (by rfl) ?_
  refine step_load_recv m ρ K c ⟨0, by decide⟩ (off_r c ⟨0, by decide⟩ 8 (by decide)) ?_
  refine step_load_out m ρ K c fun v461 => ?_
  refine step_store_out m ρ K c (src c ⟨0, by decide⟩) (off_r c ⟨0, by decide⟩ 8 (by decide)) rfl ?_
  refine step_recv m ρ K c ⟨1, by decide⟩ rfl (by rfl) ?_
  refine step_load_recv m ρ K c ⟨1, by decide⟩ (off_r c ⟨1, by decide⟩ 7 (by decide)) ?_
  refine step_load_out m ρ K c fun v479 => ?_
  refine step_store_out m ρ K c (src c ⟨1, by decide⟩) (off_r c ⟨1, by decide⟩ 7 (by decide)) rfl ?_
  exact step_ret c (h _)

/-- Part 17 of the body: row blocks 2, 3 received; the result's row block from sender 2 written. -/
theorem part17 {G : sProp 𝕄} {D : Finset (Dev nD)} {Q : _ → sProp 𝕄} {v2 v480 : BitVec 32}
    (h : ∀ a b : BitVec 32, St m ρ K c (xbX m ρ c) (outP m ρ c (insert (src c ⟨2, by decide⟩) D)) iprop(RecvSt' m ρ c ⟨3, by decide⟩ ∗ G) ⊢ Q ⟨a, b⟩) :
    St m ρ K c (xbX m ρ c) (outP m ρ c D) iprop(RecvSt c 2 ∗ G)
      ⊢ run c (k0_part17 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v480) Q := by
  rw [k0_part17_eq_skeleton]; unfold k0_part17_skel; dsimp only
  refine step_recv m ρ K c ⟨2, by decide⟩ rfl (by rfl) ?_
  refine step_load_recv m ρ K c ⟨2, by decide⟩ (off_r c ⟨2, by decide⟩ 9 (by decide)) ?_
  refine step_load_out m ρ K c fun v497 => ?_
  refine step_store_out m ρ K c (src c ⟨2, by decide⟩) (off_r c ⟨2, by decide⟩ 9 (by decide)) rfl ?_
  refine step_recv m ρ K c ⟨3, by decide⟩ rfl (by rfl) ?_
  exact step_ret c (h _ _)

/-- Part 18 of the body: row block 4 received; the result's row blocks from senders 3, 4 written. -/
theorem part18 {G : sProp 𝕄} {D : Finset (Dev nD)} {Q : _ → sProp 𝕄} {v2 v500 v509 : BitVec 32}
    (h : ∀ a b e : BitVec 32, St m ρ K c (xbX m ρ c) (outP m ρ c (insert (src c ⟨4, by decide⟩) (insert (src c ⟨3, by decide⟩) D))) iprop(RecvSt c 5 ∗ G) ⊢ Q ⟨a, b, e⟩) :
    St m ρ K c (xbX m ρ c) (outP m ρ c D) iprop(RecvSt' m ρ c ⟨3, by decide⟩ ∗ G)
      ⊢ run c (k0_part18 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v500 v509) Q := by
  rw [k0_part18_eq_skeleton]; unfold k0_part18_skel; dsimp only
  refine step_load_recv m ρ K c ⟨3, by decide⟩ (off_r c ⟨3, by decide⟩ 6 (by decide)) ?_
  refine step_load_out m ρ K c fun v515 => ?_
  refine step_store_out m ρ K c (src c ⟨3, by decide⟩) (off_r c ⟨3, by decide⟩ 6 (by decide)) rfl ?_
  refine step_recv m ρ K c ⟨4, by decide⟩ rfl (by rfl) ?_
  refine step_load_recv m ρ K c ⟨4, by decide⟩ (off_r c ⟨4, by decide⟩ 10 (by decide)) ?_
  refine step_load_out m ρ K c fun v533 => ?_
  refine step_store_out m ρ K c (src c ⟨4, by decide⟩) (off_r c ⟨4, by decide⟩ 10 (by decide)) rfl ?_
  exact step_ret c (h _ _ _)

/-- Part 19 of the body: row blocks 5, 6 received; the result's row blocks from senders 5, 6 written. -/
theorem part19 {G : sProp 𝕄} {D : Finset (Dev nD)} {Q : _ → sProp 𝕄} {v2 v536 v538 c0_i32_446 : BitVec 32}
    (h : ∀ a : BitVec 32, St m ρ K c (xbX m ρ c) (outP m ρ c (insert (src c ⟨6, by decide⟩) (insert (src c ⟨5, by decide⟩) D))) iprop(RecvSt c 7 ∗ G) ⊢ Q a) :
    St m ρ K c (xbX m ρ c) (outP m ρ c D) iprop(RecvSt c 5 ∗ G)
      ⊢ run c (k0_part19 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v536 v538 c0_i32_446) Q := by
  rw [k0_part19_eq_skeleton]; unfold k0_part19_skel; dsimp only
  refine step_recv m ρ K c ⟨5, by decide⟩ rfl (by rfl) ?_
  refine step_load_recv m ρ K c ⟨5, by decide⟩ (off_r c ⟨5, by decide⟩ 5 (by decide)) ?_
  refine step_load_out m ρ K c fun v551 => ?_
  refine step_store_out m ρ K c (src c ⟨5, by decide⟩) (off_r c ⟨5, by decide⟩ 5 (by decide)) rfl ?_
  refine step_recv m ρ K c ⟨6, by decide⟩ rfl (by rfl) ?_
  refine step_load_recv m ρ K c ⟨6, by decide⟩ (off_r c ⟨6, by decide⟩ 11 (by decide)) ?_
  refine step_load_out m ρ K c fun v569 => ?_
  refine step_store_out m ρ K c (src c ⟨6, by decide⟩) (off_r c ⟨6, by decide⟩ 11 (by decide)) rfl ?_
  exact step_ret c (h _)

/-- Part 20 of the body: row blocks 7, 8 received; the result's row block from sender 7 written. -/
theorem part20 {G : sProp 𝕄} {D : Finset (Dev nD)} {Q : _ → sProp 𝕄} {v2 v570 : BitVec 32}
    (h : ∀ a b : BitVec 32, St m ρ K c (xbX m ρ c) (outP m ρ c (insert (src c ⟨7, by decide⟩) D)) iprop(RecvSt' m ρ c ⟨8, by decide⟩ ∗ G) ⊢ Q ⟨a, b⟩) :
    St m ρ K c (xbX m ρ c) (outP m ρ c D) iprop(RecvSt c 7 ∗ G)
      ⊢ run c (k0_part20 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v570) Q := by
  rw [k0_part20_eq_skeleton]; unfold k0_part20_skel; dsimp only
  refine step_recv m ρ K c ⟨7, by decide⟩ rfl (by rfl) ?_
  refine step_load_recv m ρ K c ⟨7, by decide⟩ (off_r c ⟨7, by decide⟩ 4 (by decide)) ?_
  refine step_load_out m ρ K c fun v587 => ?_
  refine step_store_out m ρ K c (src c ⟨7, by decide⟩) (off_r c ⟨7, by decide⟩ 4 (by decide)) rfl ?_
  refine step_recv m ρ K c ⟨8, by decide⟩ rfl (by rfl) ?_
  exact step_ret c (h _ _)

/-- Part 21 of the body: row block 9 received; the result's row blocks from senders 8, 9 written. -/
theorem part21 {G : sProp 𝕄} {D : Finset (Dev nD)} {Q : _ → sProp 𝕄} {v2 v590 v599 : BitVec 32}
    (h : ∀ a b e : BitVec 32, St m ρ K c (xbX m ρ c) (outP m ρ c (insert (src c ⟨9, by decide⟩) (insert (src c ⟨8, by decide⟩) D))) iprop(RecvSt c 10 ∗ G) ⊢ Q ⟨a, b, e⟩) :
    St m ρ K c (xbX m ρ c) (outP m ρ c D) iprop(RecvSt' m ρ c ⟨8, by decide⟩ ∗ G)
      ⊢ run c (k0_part21 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v590 v599) Q := by
  rw [k0_part21_eq_skeleton]; unfold k0_part21_skel; dsimp only
  refine step_load_recv m ρ K c ⟨8, by decide⟩ (off_r c ⟨8, by decide⟩ 12 (by decide)) ?_
  refine step_load_out m ρ K c fun v605 => ?_
  refine step_store_out m ρ K c (src c ⟨8, by decide⟩) (off_r c ⟨8, by decide⟩ 12 (by decide)) rfl ?_
  refine step_recv m ρ K c ⟨9, by decide⟩ rfl (by rfl) ?_
  refine step_load_recv m ρ K c ⟨9, by decide⟩ (off_r c ⟨9, by decide⟩ 3 (by decide)) ?_
  refine step_load_out m ρ K c fun v623 => ?_
  refine step_store_out m ρ K c (src c ⟨9, by decide⟩) (off_r c ⟨9, by decide⟩ 3 (by decide)) rfl ?_
  exact step_ret c (h _ _ _)

/-- Part 22 of the body: row blocks 10, 11 received; the result's row blocks from senders 10, 11 written. -/
theorem part22 {G : sProp 𝕄} {D : Finset (Dev nD)} {Q : _ → sProp 𝕄} {v2 v626 v628 c0_i32_526 : BitVec 32}
    (h : ∀ a : BitVec 32, St m ρ K c (xbX m ρ c) (outP m ρ c (insert (src c ⟨11, by decide⟩) (insert (src c ⟨10, by decide⟩) D))) iprop(RecvSt c 12 ∗ G) ⊢ Q a) :
    St m ρ K c (xbX m ρ c) (outP m ρ c D) iprop(RecvSt c 10 ∗ G)
      ⊢ run c (k0_part22 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v626 v628 c0_i32_526) Q := by
  rw [k0_part22_eq_skeleton]; unfold k0_part22_skel; dsimp only
  refine step_recv m ρ K c ⟨10, by decide⟩ rfl (by rfl) ?_
  refine step_load_recv m ρ K c ⟨10, by decide⟩ (off_r c ⟨10, by decide⟩ 13 (by decide)) ?_
  refine step_load_out m ρ K c fun v641 => ?_
  refine step_store_out m ρ K c (src c ⟨10, by decide⟩) (off_r c ⟨10, by decide⟩ 13 (by decide)) rfl ?_
  refine step_recv m ρ K c ⟨11, by decide⟩ rfl (by rfl) ?_
  refine step_load_recv m ρ K c ⟨11, by decide⟩ (off_r c ⟨11, by decide⟩ 2 (by decide)) ?_
  refine step_load_out m ρ K c fun v659 => ?_
  refine step_store_out m ρ K c (src c ⟨11, by decide⟩) (off_r c ⟨11, by decide⟩ 2 (by decide)) rfl ?_
  exact step_ret c (h _)

/-- Part 23 of the body: row blocks 12, 13 received; the result's row block from sender 12 written. -/
theorem part23 {G : sProp 𝕄} {D : Finset (Dev nD)} {Q : _ → sProp 𝕄} {v2 v660 : BitVec 32}
    (h : ∀ a b : BitVec 32, St m ρ K c (xbX m ρ c) (outP m ρ c (insert (src c ⟨12, by decide⟩) D)) iprop(RecvSt' m ρ c ⟨13, by decide⟩ ∗ G) ⊢ Q ⟨a, b⟩) :
    St m ρ K c (xbX m ρ c) (outP m ρ c D) iprop(RecvSt c 12 ∗ G)
      ⊢ run c (k0_part23 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v660) Q := by
  rw [k0_part23_eq_skeleton]; unfold k0_part23_skel; dsimp only
  refine step_recv m ρ K c ⟨12, by decide⟩ rfl (by rfl) ?_
  refine step_load_recv m ρ K c ⟨12, by decide⟩ (off_r c ⟨12, by decide⟩ 14 (by decide)) ?_
  refine step_load_out m ρ K c fun v677 => ?_
  refine step_store_out m ρ K c (src c ⟨12, by decide⟩) (off_r c ⟨12, by decide⟩ 14 (by decide)) rfl ?_
  refine step_recv m ρ K c ⟨13, by decide⟩ rfl (by rfl) ?_
  exact step_ret c (h _ _)

/-- Part 24 of the body: row block 14 received; the result's row blocks from senders 13, 14 written. -/
theorem part24 {G : sProp 𝕄} {D : Finset (Dev nD)} {Q : _ → sProp 𝕄} {v2 v680 v689 : BitVec 32}
    (h : St m ρ K c (xbX m ρ c) (outP m ρ c (insert (src c ⟨14, by decide⟩) (insert (src c ⟨13, by decide⟩) D))) iprop(RecvSt c 15 ∗ G) ⊢ Q ⟨⟩) :
    St m ρ K c (xbX m ρ c) (outP m ρ c D) iprop(RecvSt' m ρ c ⟨13, by decide⟩ ∗ G)
      ⊢ run c (k0_part24 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 v680 v689) Q := by
  rw [k0_part24_eq_skeleton]; unfold k0_part24_skel; dsimp only
  refine step_load_recv m ρ K c ⟨13, by decide⟩ (off_r c ⟨13, by decide⟩ 1 (by decide)) ?_
  refine step_load_out m ρ K c fun v695 => ?_
  refine step_store_out m ρ K c (src c ⟨13, by decide⟩) (off_r c ⟨13, by decide⟩ 1 (by decide)) rfl ?_
  refine step_recv m ρ K c ⟨14, by decide⟩ rfl (by rfl) ?_
  refine step_load_recv m ρ K c ⟨14, by decide⟩ (off_r c ⟨14, by decide⟩ 15 (by decide)) ?_
  refine step_load_out m ρ K c fun v713 => ?_
  refine step_store_out m ρ K c (src c ⟨14, by decide⟩) (off_r c ⟨14, by decide⟩ 15 (by decide)) rfl ?_
  exact step_ret c h

/-- Part 25 of the body: slots 0, 1, 2 taken back. -/
theorem part25 {G : sProp 𝕄} {D : Finset (Dev nD)} {Q : _ → sProp 𝕄} {v2 : BitVec 32}
    (h : St m ρ K c (xbX m ρ c) (outP m ρ c D) iprop(SendSt c 3 ∗ G) ⊢ Q ⟨⟩) :
    St m ρ K c (xbX m ρ c) (outP m ρ c D) iprop(SendSt c 0 ∗ G)
      ⊢ run c (k0_part25 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2) Q := by
  rw [k0_part25_eq_skeleton]; unfold k0_part25_skel; dsimp only
  refine step_sent m ρ K c ⟨0, by decide⟩ rfl (by rfl) ?_
  refine step_sent m ρ K c ⟨1, by decide⟩ rfl (by rfl) ?_
  refine step_sent m ρ K c ⟨2, by decide⟩ rfl (by rfl) ?_
  exact step_ret c h

/-- Part 26 of the body: slots 3, 4, 5, 6 taken back. -/
theorem part26 {G : sProp 𝕄} {D : Finset (Dev nD)} {Q : _ → sProp 𝕄} {v2 : BitVec 32}
    (h : ∀ a : BitVec 32, St m ρ K c (xbX m ρ c) (outP m ρ c D) iprop(SendSt c 7 ∗ G) ⊢ Q a) :
    St m ρ K c (xbX m ρ c) (outP m ρ c D) iprop(SendSt c 3 ∗ G)
      ⊢ run c (k0_part26 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2) Q := by
  rw [k0_part26_eq_skeleton]; unfold k0_part26_skel; dsimp only
  refine step_sent m ρ K c ⟨3, by decide⟩ rfl (by rfl) ?_
  refine step_sent m ρ K c ⟨4, by decide⟩ rfl (by rfl) ?_
  refine step_sent m ρ K c ⟨5, by decide⟩ rfl (by rfl) ?_
  refine step_sent m ρ K c ⟨6, by decide⟩ rfl (by rfl) ?_
  exact step_ret c (h _)

/-- Part 27 of the body: slots 7, 8, 9 taken back. -/
theorem part27 {G : sProp 𝕄} {D : Finset (Dev nD)} {Q : _ → sProp 𝕄} {v2 c4_i32_668 : BitVec 32}
    (h : St m ρ K c (xbX m ρ c) (outP m ρ c D) iprop(SendSt c 10 ∗ G) ⊢ Q ⟨⟩) :
    St m ρ K c (xbX m ρ c) (outP m ρ c D) iprop(SendSt c 7 ∗ G)
      ⊢ run c (k0_part27 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2 c4_i32_668) Q := by
  rw [k0_part27_eq_skeleton]; unfold k0_part27_skel; dsimp only
  refine step_sent m ρ K c ⟨7, by decide⟩ rfl (by rfl) ?_
  refine step_sent m ρ K c ⟨8, by decide⟩ rfl (by rfl) ?_
  refine step_sent m ρ K c ⟨9, by decide⟩ rfl (by rfl) ?_
  exact step_ret c h

/-- Part 28 of the body: slots 10, 11, 12 taken back. -/
theorem part28 {G : sProp 𝕄} {D : Finset (Dev nD)} {Q : _ → sProp 𝕄} {v2 : BitVec 32}
    (h : St m ρ K c (xbX m ρ c) (outP m ρ c D) iprop(SendSt c 13 ∗ G) ⊢ Q ⟨⟩) :
    St m ρ K c (xbX m ρ c) (outP m ρ c D) iprop(SendSt c 10 ∗ G)
      ⊢ run c (k0_part28 (F := F) xM (Memref.isWhole_whole _) wM (Memref.isWhole_whole _) oM (Memref.isWhole_whole _) xbM (Memref.isWhole_whole _) sbM (Memref.isWhole_whole _) gbM (Memref.isWhole_whole _) cc0_scratch3 cc0_scratch4 c v2) Q := by
  rw [k0_part28_eq_skeleton]; unfold k0_part28_skel; dsimp only
  refine step_sent m ρ K c ⟨10, by decide⟩ rfl (by rfl) ?_
  refine step_sent m ρ K c ⟨11, by decide⟩ rfl (by rfl) ?_
  refine step_sent m ρ K c ⟨12, by decide⟩ rfl (by rfl) ?_
  exact step_ret c h

end Cert.KernelIdeal.A2A

end
-- ==== Proof.Body.lean ====
/-
# The body on one device

What a device starts from and ends with, and the body between the two: the twenty-eight parts in order, then every
semaphore's cell closed and the lent blocks joined to whole buffers again.
-/
module

public import proofs.«01_k».proof.Proof.Parts

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over devices and cells -/

/-- A family over the devices: device `c`'s member, and the others' by their distance ahead of `c`. -/
theorem devs_split {M : Type} [URA M] (c : Dev nD) (Φ : Dev nD → sProp M) :
    bigSep Finset.univ Φ = iprop(Φ c ∗ bigSep Finset.univ (fun d : Fin 15 => Φ (peer c d))) := by
  have e : (Finset.univ.erase c : Finset (Dev nD)) = Finset.univ.map ⟨peer c, fun d d' h => peer_inj c d d' h⟩ := by
    revert c; decide
  rw [bigSep_univ_at Φ c, e, BI.bigSep_map]; rfl

/-- The others' members by the slot that serves `c`'s receive cell. -/
theorem peers_by_slot {M : Type} [URA M] (c : Dev nD) (Φ : Dev nD → sProp M) :
    bigSep Finset.univ (fun d : Fin 15 => Φ (peer c d)) = bigSep Finset.univ (fun k : Fin 15 => Φ (src c k)) := by
  rw [BI.bigSep_univ_equiv (ordE.trans Fin.revPerm) (fun d : Fin 15 => Φ (peer c d))]
  refine bigSep_congr fun k _ => ?_
  rw [show peer c ((ordE.trans Fin.revPerm) k) = src c k from by
    show peer c (ord k).rev = bk c (ord k); rw [← bk_rev, Fin.rev_rev]]

/-- A family over a device's cells: the barrier's, the receive cells', the send cells'. -/
theorem own_split {M : Type} [URA M] (Φ : Bool × Fin 15 → sProp M) :
    bigSep Finset.univ Φ
      = iprop(bigSep Finset.univ (fun k : Fin 15 => Φ (true, k)) ∗ bigSep Finset.univ (fun k : Fin 15 => Φ (false, k))) := by
  rw [BI.bigSep_univ_prod, bigSep_univ_eq_bigSepL [true, false] (by decide) (by decide)]; rfl
theorem cells_split' {M : Type} [URA M] (Φ : CI → sProp M) :
    bigSep Finset.univ Φ = iprop(Φ none ∗ bigSep Finset.univ (fun i : Bool × Fin 15 => Φ (some i))) := by
  have e : (Finset.univ.erase none : Finset CI) = Finset.univ.map Function.Embedding.some := by decide
  rw [bigSep_univ_at Φ none, e, BI.bigSep_map]; rfl
theorem cells_split {M : Type} [URA M] (Φ : CI → sProp M) :
    bigSep Finset.univ Φ = iprop(Φ none ∗ bigSep Finset.univ (fun k : Fin 15 => Φ (some (true, k)))
      ∗ bigSep Finset.univ (fun k : Fin 15 => Φ (some (false, k)))) := by
  rw [cells_split', own_split]

/-- Something persistent goes to every member of a family. -/
theorem bigSep_along {M : Type} [URA M] {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The buffers a device lends piecewise -/

/-- The indices of a row block and of a slot, as indices of the whole buffer. -/
abbrev gathI (t : Fin 16) : Finset S2048x128.Idx := (gM t).view.set
abbrev slotI (k : Fin 15) : Finset S15x128x128.Idx := (sM k).view.set

theorem gath_disjoint (t t' : Fin 16) (h : t ≠ t') : Disjoint (gM t).view.set (gM t').view.set := by
  rw [show (gM t).view.set = (rowR t).set from View.set_slice_whole _ _, show (gM t').view.set = (rowR t').set from View.set_slice_whole _ _]
  exact row_disjoint h
theorem gath_cover : Finset.univ.biUnion gathI = Finset.univ := by
  rw [show gathI = fun t => (rowR t).set from funext fun t => View.set_slice_whole _ _]
  exact Ring.lead_cover (s := S2048x128) (NB := 16) 0 128 (fun b => ![128 * b.val, 0]) S128x128.size rowInb (fun _ => rfl)
    (by decide) rfl (by decide) (by decide)
theorem slot_set_rect (k : Fin 15) : (sM k).view.set = (slotR k).set :=
  (slot_set k).symm.trans (View.set_slice_whole _ _)
theorem slot_disjoint (k k' : Fin 15) (h : k ≠ k') : Disjoint (sM k).view.set (sM k').view.set := by
  rw [slot_set_rect, slot_set_rect]
  exact Ring.lead_disjoint (s := S15x128x128) (NB := 15) 0 1 (fun b => ![b.val, 0, 0]) S1x128x128.size slotInb (fun b => (Nat.one_mul b.val).symm) rfl k k' h
theorem slot_cover : Finset.univ.biUnion slotI = Finset.univ := by
  rw [show slotI = fun k => (slotR k).set from funext slot_set_rect]
  exact Ring.lead_cover (s := S15x128x128) (NB := 15) 0 1 (fun b => ![b.val, 0, 0]) S1x128x128.size slotInb (fun b => (Nat.one_mul b.val).symm)
    (by decide) rfl (by decide) (by decide)

/-- The gather buffer and the send buffer, whole, at some contents. -/
def gbAny (c : Dev nD) : sProp 𝕄 := iprop(∃ f, (c : Thread nD τ).loc cc0_scratch2 ↦{fullShare} f)
def sbAny (c : Dev nD) : sProp 𝕄 := iprop(∃ f, (c : Thread nD τ).loc cc0_scratch1 ↦{fullShare} f)

theorem gAny_of (c : Dev nD) (t : Fin 16) (f : S2048x128.Idx → F .bf16) : gPts c t f ⊢ (gAny c t : sProp 𝕄) := by
  unfold gAny; iintro H; iexists f; iexact H
theorem sAny_of (c : Dev nD) (k : Fin 15) (f : S15x128x128.Idx → F .bf16) : sPts c k f ⊢ (sAny c k : sProp 𝕄) := by
  unfold sAny; iintro H; iexists f; iexact H

/-- The gather buffer is its sixteen row blocks, apart and together again; -/
theorem gb_split (c : Dev nD) : gbAny c ⊢ (bigSep Finset.univ (fun t => gAny c t) : sProp 𝕄) := by
  unfold gbAny
  iintro ⟨%f, H⟩
  have e := Ring.pointsTo_blocks (Ix := Unit) (Name := ℕ) (U := UU) (Lvl := ℕ) (q := fullShare) gathI gath_disjoint gath_cover
    (ℓ := (c : Thread nD τ).loc cc0_scratch2) f
  ihave H' := (Entails.of_eq e) $$ H
  have e2 : bigSep Finset.univ (fun t => (((c : Thread nD τ).loc cc0_scratch2) ↦[(gM t).view.set]{fullShare} f : sProp 𝕄))
      ⊢ bigSep Finset.univ (fun t => gAny c t) := bigSep_mono fun t _ => gAny_of c t f
  iapply e2; iexact H'
theorem gb_join (c : Dev nD) : (bigSep Finset.univ (fun t => gAny c t) : sProp 𝕄) ⊢ gbAny c :=
  Ring.pointsTo_blocks_join_exists (ℓ := (c : Thread nD τ).loc cc0_scratch2) gathI gath_disjoint gath_cover
    (fun _ => (Scalar.ofBits .bf16 0#16 : F .bf16))

/-- and the send buffer its fifteen slots. -/
theorem sb_split (c : Dev nD) : sbAny c ⊢ (bigSep Finset.univ (fun k => sAny c k) : sProp 𝕄) := by
  unfold sbAny
  iintro ⟨%f, H⟩
  have e := Ring.pointsTo_blocks (Ix := Unit) (Name := ℕ) (U := UU) (Lvl := ℕ) (q := fullShare) slotI slot_disjoint slot_cover
    (ℓ := (c : Thread nD τ).loc cc0_scratch1) f
  ihave H' := (Entails.of_eq e) $$ H
  have e2 : bigSep Finset.univ (fun k => (((c : Thread nD τ).loc cc0_scratch1) ↦[(sM k).view.set]{fullShare} f : sProp 𝕄))
      ⊢ bigSep Finset.univ (fun k => sAny c k) := bigSep_mono fun k _ => sAny_of c k f
  iapply e2; iexact H'
theorem sb_join (c : Dev nD) : (bigSep Finset.univ (fun k => sAny c k) : sProp 𝕄) ⊢ sbAny c :=
  Ring.pointsTo_blocks_join_exists (ℓ := (c : Thread nD τ).loc cc0_scratch1) slotI slot_disjoint slot_cover
    (fun _ => (Scalar.ofBits .bf16 0#16 : F .bf16))

/-! ## What a device starts from -/

/-- The tokens of the duties device `c` pays: every other device's barrier, every destination's receive cell, its own send cells. -/
def payToks (c : Dev nD) : sProp 𝕄 :=
  iprop(bigSep Finset.univ (fun d : Fin 15 => dutyTok ER (barCell (peer c d)) 0 d)
    ∗ bigSep Finset.univ (fun k : Fin 15 => dutyTok ER (recvCell (dst c k) k) 0 0)
    ∗ bigSep Finset.univ (fun k : Fin 15 => dutyTok ER (sendCell c k) 0 0))
/-- Its positions in its cells' rounds, and those tokens. -/
def linear (c : Dev nD) : sProp 𝕄 :=
  iprop(bigSep Finset.univ (fun ci : CI => atPos ER (kcell (c, ci)) 0 ∅ 0) ∗ payToks c)
/-- Its credit: fifteen barrier units and every receive cell's. -/
def credits (c : Dev nD) : sProp 𝕄 :=
  iprop(cred (tallyAt (barCell c) () 15) ∗ bigSep Finset.univ (fun k : Fin 15 => cred (tallyAt (recvCell c k) () N)))
/-- What device `c` starts from. -/
def start (c : Dev nD) : sProp 𝕄 := iprop(∃ K, Ctx m ρ K ∗ linear c ∗ credits c)

/-! ## From one phase to the next -/

section Phases

variable (K : Dev nD × CI → ℕ) (c : Dev nD)

/-- Set aside until the transfers are out: the receive cells' credit and positions, the send cells' positions, the device's
    own row block of its gather buffer. -/
def aside (c : Dev nD) : sProp 𝕄 :=
  iprop(bigSep Finset.univ (fun k => iprop(cred (tallyAt (recvCell c k) () N) ∗ atPos ER (recvCell c k) 0 ∅ 0))
    ∗ bigSep Finset.univ (fun k => atPos ER (sendCell c k) 0 ∅ 0) ∗ gAny c c)
/-- The rest of what the transfers need, until the signals are out. -/
def remB (c : Dev nD) : sProp 𝕄 :=
  iprop(bigSep Finset.univ (fun k => dutyTok ER (recvCell (dst c k) k) 0 0) ∗ cred (tallyAt (barCell c) () 15) ∗ atPos ER (barCell c) 0 ∅ 0)

/-- The start, sorted by phase. -/
theorem phase_start : iprop(linear c ∗ credits c ∗ ow c (O₀ c) ∗ gbAny c ∗ sbAny c)
    ⊢ (iprop(SigSt c 0 ∗ (SlotSt c 0 ∗ remB c ∗ aside c)) : sProp 𝕄) := by
  unfold linear payToks credits SigSt SlotSt remB aside
  rw [cells_split, ge_zero, ge_zero, lt_zero, bigSep_sep', bigSep_sep', bigSep_sep']
  iintro ⟨⟨⟨HaB, HaR, HaS⟩, HtB, HtR, HtS⟩, ⟨HcB, HcR⟩, HO, Hg, Hs⟩
  ihave Hg' := (gb_split c) $$ Hg
  ihave Hg2 := (Entails.of_eq (devs_split c (fun t => (gAny c t : sProp 𝕄)))) $$ Hg'
  icases Hg2 with ⟨Hgc, Hgp⟩
  ihave Hs' := (sb_split c) $$ Hs
  isplitl [HO HtB Hgp]
  · isplitl [HO]; · iexact HO
    isplitl [HtB]; · iexact HtB
    iexact Hgp
  isplitl [Hs' HtS]
  · isplitl [Hs' HtS]
    · isplitl [Hs']; · iexact Hs'
      iexact HtS
    iempintro
  isplitl [HtR HcB HaB]
  · isplitl [HtR]; · iexact HtR
    isplitl [HcB]; · iexact HcB
    iexact HaB
  isplitl [HcR HaR]
  · isplitl [HcR]; · iexact HcR
    iexact HaR
  isplitl [HaS]; · iexact HaS
  iexact Hgc

/-- The signals out: the tiles and the transfers. -/
theorem phase_tiles : iprop(SigSt c 15 ∗ (SlotSt c 0 ∗ remB c ∗ aside c)) ⊢ (iprop(SlotSt c 0 ∗ RemB c ∗ aside c) : sProp 𝕄) := by
  unfold SigSt RemB remB
  rw [ge_end, Obar_end, add_zero]
  iintro ⟨⟨HO, -⟩, Hs, Hr, Ha⟩
  isplitl [Hs]; · iexact Hs
  isplitl [HO Hr]
  · isplitl [HO]; · iexact HO
    iexact Hr
  iexact Ha

/-- Set aside until the row blocks are in. -/
def aside2 (c : Dev nD) : sProp 𝕄 :=
  iprop(bigSep Finset.univ (fun k => iprop(cred (tallyAt (sendCell c k) () N) ∗ atPos ER (sendCell c k) 0 ∅ 0))
    ∗ gAny c c ∗ atPos ER (barCell c) 1 ∅ 0)

/-- The transfers out: the receiving. -/
theorem phase_recv : iprop(SlotSt c 15 ∗ Rem c 15 ∗ aside c) ⊢ (iprop(RecvSt c 0 ∗ aside2 c) : sProp 𝕄) := by
  unfold SlotSt Rem aside RecvSt aside2
  rw [ge_end, ge_end, lt_all, ge_zero, lt_zero, Orecv_end, bigSep_sep' Finset.univ (fun k => cred (tallyAt (sendCell c k) () N))]
  iintro ⟨⟨-, Hc⟩, ⟨HO, -, HaB⟩, Hr, HaS, Hg⟩
  isplitl [HO Hr]
  · isplitl [HO]; · iexact HO
    isplitl [Hr]; · iexact Hr
    iempintro
  isplitl [Hc HaS]
  · isplitl [Hc]; · iexact Hc
    iexact HaS
  isplitl [Hg]; · iexact Hg
  iexact HaB

/-- Set aside until the slots are back: the whole gather buffer, the receive cells' and the barrier's positions. -/
def aside3 (c : Dev nD) : sProp 𝕄 :=
  iprop(gbAny c ∗ bigSep Finset.univ (fun k => atPos ER (recvCell c k) 1 ∅ 0) ∗ atPos ER (barCell c) 1 ∅ 0)

/-- The row blocks in: the slots taken back. -/
theorem phase_sent : iprop(RecvSt c 15 ∗ aside2 c) ⊢ (iprop(SendSt c 0 ∗ aside3 c) : sProp 𝕄) := by
  unfold RecvSt aside2 SendSt aside3
  rw [ge_end, lt_all, ge_zero, lt_zero, bigSep_sep' Finset.univ (fun k => gAny c (src c k)), ← peers_by_slot c (fun t => gAny c t)]
  iintro ⟨⟨HO, -, Hg, HaR⟩, Hs, Hgc, HaB⟩
  isplitl [HO Hs]
  · isplitl [HO]; · iexact HO
    isplitl [Hs]; · iexact Hs
    iempintro
  isplitl [Hg Hgc]
  · iapply (gb_join c)
    iapply (Entails.of_eq (devs_split c (fun t => (gAny c t : sProp 𝕄))).symm)
    isplitl [Hgc]; · iexact Hgc
    iexact Hg
  isplitl [HaR]; · iexact HaR
  iexact HaB

/-- A cell whose round is over closes: its counter, at zero, is the device's again. -/
theorem close_one (ci : CI) : iprop(Ctx m ρ K ∗ atPos ER (kcell (c, ci)) 1 ∅ 0) ⊢ (|={Set.univ}=> semVal (kcell (c, ci)) 0 : sProp 𝕄) := by
  iintro ⟨#HC, H⟩
  iapply (Rounds.cell_close ER (rd m ρ) (Set.mem_univ (K (c, ci))) (fun h => h) (R := 1) (duties_later m ρ (kcell (c, ci))))
  isplitr; · iapply (Ctx_inv m ρ K (c, ci)); iexact HC
  iexact H

/-- What a device ends with beside its `x`, its `w` and its result: its scratch buffers and its semaphores at zero. -/
def Φ₁ (c : Dev nD) : sProp 𝕄 :=
  iprop((xbAny c ∗ sbAny c ∗ gbAny c) ∗ bigSep Finset.univ (fun i : Bool × Fin 15 => semVal ((c : Thread nD τ), osem i) 0)
    ∗ semVal (barCell c) 0)

/-- The slots back: every cell closes. -/
theorem phase_end : iprop(Ctx m ρ K ∗ xbX m ρ c ∗ SendSt c 15 ∗ aside3 c) ⊢ (|={Set.univ}=> iprop(Φ₁ c ∗ ow c 0) : sProp 𝕄) := by
  unfold SendSt aside3
  rw [ge_end, lt_all, bigSep_sep' Finset.univ (fun k => sAny c k)]
  iintro ⟨#HC, Hxb, ⟨HO, -, Hs, HaS⟩, Hg, HaR, HaB⟩
  have e : iprop(Ctx m ρ K ∗ bigSep Finset.univ (fun ci : CI => atPos ER (kcell (c, ci)) 1 ∅ 0))
      ⊢ (|={Set.univ}=> bigSep Finset.univ (fun ci : CI => semVal (kcell (c, ci)) 0) : sProp 𝕄) :=
    (bigSep_along (R := Ctx m ρ K) fun ci _ => close_one m ρ K c ci).trans (bigSep_fupd _ _)
  imod e $$ [HaS HaR HaB] with Hz
  · isplitr; · iexact HC
    rw [cells_split]
    isplitl [HaB]; · iexact HaB
    isplitl [HaR]; · iexact HaR
    iexact HaS
  ihave Hz' := (Entails.of_eq (cells_split' (fun ci : CI => (semVal (kcell (c, ci)) 0 : sProp 𝕄)))) $$ Hz
  icases Hz' with ⟨HzB, HzO⟩
  ihave Hs' := (sb_join c) $$ Hs
  imodintro
  isplitr [HO]
  · unfold Φ₁ xbAny xbX
    isplitl [Hxb Hs' Hg]
    · isplitl [Hxb]; · iexists _; iexact Hxb
      isplitl [Hs']; · iexact Hs'
      iexact Hg
    isplitl [HzO]; · iexact HzO
    iexact HzB
  iexact HO

end Phases

/-! ## The result -/

/-- A result buffer whose sixteen row blocks are the sixteen devices' widened tiles holds the result. -/
theorem out_eq (c : Dev nD) (f : (cc0_stg2_0 : Ref sig .tc).ty.Contents (Elt F))
    (h : ∀ s : Dev nD, (oM.access (rowR s)).read (Elt F) f = extf .f32 (tile m ρ s c) bitsLt_bf16_f32) : f = outC m ρ c := by
  funext i
  have hs : (i 0).val / 128 < 16 := Nat.div_lt_of_lt_mul (i 0).isLt
  have e := congrFun (h ⟨(i 0).val / 128, hs⟩) (ValueIdx.ix2 ⟨(i 0).val % 128, Nat.mod_lt _ (by decide)⟩ (i 1))
  refine Eq.trans ?_ e
  show f i = f ((oM.access (rowR ⟨(i 0).val / 128, hs⟩)).emb _)
  congr 1
  funext a
  fin_cases a
  · exact Fin.ext (by show (i 0).val = 128 * ((i 0).val / 128) + 1 * ((i 0).val % 128); have := Nat.div_add_mod (i 0).val 128; omega)
  · exact Fin.ext (by show (i 1).val = 0 + 1 * (i 1).val; omega)

/-- The device itself and its fifteen senders are all the devices. -/
theorem all_senders (c : Dev nD) : (insert (src c ⟨14, by decide⟩) (insert (src c ⟨13, by decide⟩) (insert (src c ⟨12, by decide⟩)
    (insert (src c ⟨11, by decide⟩) (insert (src c ⟨10, by decide⟩) (insert (src c ⟨9, by decide⟩) (insert (src c ⟨8, by decide⟩)
    (insert (src c ⟨7, by decide⟩) (insert (src c ⟨6, by decide⟩) (insert (src c ⟨5, by decide⟩) (insert (src c ⟨4, by decide⟩)
    (insert (src c ⟨3, by decide⟩) (insert (src c ⟨2, by decide⟩) (insert (src c ⟨1, by decide⟩) (insert (src c ⟨0, by decide⟩)
    (insert c ∅))))))))))))))) : Finset (Dev nD)) = Finset.univ := by
  revert c; decide

end Cert.KernelIdeal.A2A

end
-- ==== Proof.Run.lean ====
/-
# The body obligation

The whole body, from what a device starts from to what it ends with, and the library's obligation for it.
-/
module

public import proofs.«01_k».proof.Proof.Body
public import proofs.«01_k».proof.Proof.Gen.KernelIdeal.Points

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body as the launch calls it. -/
abbrev theBody : Prog (TpuEff nD τ sig (Elt F) Λ₀ .tc) PUnit :=
  cc0_body xM (Memref.isWhole_whole _) wM (Memref.isWhole_whole _) oM (Memref.isWhole_whole _) xbM (Memref.isWhole_whole _) sbM (Memref.isWhole_whole _)
    gbM (Memref.isWhole_whole _) cc0_scratch3 cc0_scratch4

/-- The whole body: its parts in order, and the last two slots taken back. -/
theorem body_run (K : Dev nD × CI → ℕ) (c : Dev nD) {Q : PUnit → sProp 𝕄}
    (h : St m ρ K c (xbX m ρ c) (outP m ρ c Finset.univ) iprop(SendSt c 15 ∗ aside3 c) ⊢ run c (pure PUnit.unit) Q) :
    St m ρ K c (xbAny c) (outP m ρ c ∅) iprop(SigSt c 0 ∗ (SlotSt c 0 ∗ remB c ∗ aside c)) ⊢ run c (theBody (F := F)) Q := by
  unfold theBody
  rw [cc0_body_eq_skeleton]; unfold cc0_body_skel
  refine step_bind c ?_
  refine part1 m ρ K c fun _ _ => ?_
  refine step_bind c ?_
  refine part2 m ρ K c fun _ _ => ?_
  refine step_bind c ?_
  refine part3 m ρ K c fun _ => ?_
  refine step_bind c ?_
  refine step_conv m ρ K c (phase_tiles c) ?_
  refine part4 m ρ K c fun _ => ?_
  refine step_bind c ?_
  refine part5 m ρ K c ?_
  refine step_bind c ?_
  refine part6 m ρ K c fun _ _ => ?_
  refine step_bind c ?_
  refine part7 m ρ K c fun _ => ?_
  refine step_bind c ?_
  refine part8 m ρ K c fun _ _ => ?_
  refine step_bind c ?_
  refine part9 m ρ K c fun _ => ?_
  refine step_bind c ?_
  refine part10 m ρ K c fun _ => ?_
  refine step_bind c ?_
  refine part11 m ρ K c fun _ => ?_
  refine step_bind c ?_
  refine part12 m ρ K c ?_
  refine step_bind c ?_
  refine part13 m ρ K c fun _ => ?_
  refine step_bind c ?_
  refine part14 m ρ K c fun _ => ?_
  refine step_bind c ?_
  refine part15 m ρ K c fun _ _ _ => ?_
  refine step_bind c ?_
  refine step_conv m ρ K c (phase_recv c) ?_
  refine part16 m ρ K c fun _ => ?_
  refine step_bind c ?_
  refine part17 m ρ K c fun _ _ => ?_
  refine step_bind c ?_
  refine part18 m ρ K c fun _ _ _ => ?_
  refine step_bind c ?_
  refine part19 m ρ K c fun _ => ?_
  refine step_bind c ?_
  refine part20 m ρ K c fun _ _ => ?_
  refine step_bind c ?_
  refine part21 m ρ K c fun _ _ _ => ?_
  refine step_bind c ?_
  refine part22 m ρ K c fun _ => ?_
  refine step_bind c ?_
  refine part23 m ρ K c fun _ _ => ?_
  refine step_bind c ?_
  refine part24 m ρ K c ?_
  refine step_bind c ?_
  refine step_conv m ρ K c (phase_sent c) ?_
  refine part25 m ρ K c ?_
  refine step_bind c ?_
  refine part26 m ρ K c fun _ => ?_
  refine step_bind c ?_
  refine part27 m ρ K c ?_
  refine step_bind c ?_
  refine part28 m ρ K c ?_
  refine step_sent m ρ K c ⟨13, by decide⟩ rfl (by rfl) ?_
  refine step_sent m ρ K c ⟨14, by decide⟩ rfl (by rfl) ?_
  rw [all_senders c]
  exact h

/-! ## The launch's data -/

/-- What the launch tracks on device `c`: its arrays' contents, what the body leaves in each window's buffer, what is held
    before and after the one grid point, and what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => wC m ρ c
    | ⟨2, _⟩ => outC m ρ c
  Φ t := match t with
    | ⟨0, _⟩ => iprop(start m ρ c ∗ (xbAny c ∗ sbAny c ∗ gbAny c))
    | ⟨_ + 1, _⟩ => Φ₁ c
  q _ := fullShare
  owed t := match t with
    | ⟨0, _⟩ => O₀ c
    | ⟨_ + 1, _⟩ => 0

/-- A staging buffer at contents equal to `X`. -/
abbrev held (c : Dev nD) (b : Ref sig .tc) (X : b.ty.Contents (Elt F)) : sProp 𝕄 :=
  iprop(∃ f : Buf (Elt F) ((c : Thread nD τ).loc b), ⌜f = X⌝ ∗ (c : Thread nD τ).loc b ↦{fullShare} f)

omit [FloatOps F] in
/-- Owning a whole buffer at `X` is holding it at contents equal to `X`. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-- Before the point: what is tracked, what is owed, the three staging buffers. -/
def before₀ (c : Dev nD) : sProp 𝕄 :=
  iprop((start m ρ c ∗ (xbAny c ∗ sbAny c ∗ gbAny c)) ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
/-- After it. -/
def after₀ (c : Dev nD) : sProp 𝕄 :=
  iprop(Φ₁ c ∗ (dats m ρ 0 c).owesAt () t0_0.succ ∗ held c cc0_stg0_0 (xC m ρ c) ∗ held c cc0_stg1_0 (wC m ρ c) ∗ held c cc0_stg2_0 (outC m ρ c))

/-- The last state gives what is held after the point. -/
theorem body_end (K : Dev nD × CI → ℕ) (c : Dev nD) :
    St m ρ K c (xbX m ρ c) (outP m ρ c Finset.univ) iprop(SendSt c 15 ∗ aside3 c) ⊢ run c (pure PUnit.unit) (fun _ => after₀ m ρ c) := by
  have e : (run c (pure PUnit.unit) (fun _ : PUnit => after₀ m ρ c) : sProp 𝕄) = iprop(|={Set.univ}[frame]=> after₀ m ρ c) := rfl
  rw [e]
  unfold St outP
  iintro ⟨#HC, ⟨Hx, Hw, Hxb, %f, %hf, Ho⟩, HS, HA⟩
  imod (phase_end m ρ K c) $$ [Hxb HS HA] with ⟨HΦ, HO⟩
  · isplitr; · iexact HC
    isplitl [Hxb]; · iexact Hxb
    isplitl [HS] <;> iassumption
  imodintro
  unfold after₀ Dat.owesAt Pipeline.owesWithin ow
  rw [show (dats m ρ 0 c).owed t0_0.succ = 0 from rfl]
  icases HO with ⟨%W, HO⟩
  isplitl [HΦ]; · iexact HΦ
  isplitl [HO]
  · iexists W
    isplitr; · ipureintro; exact fun _ _ => Or.inl trivial
    iexact HO
  isplitl [Hx]
  · iexists (xC m ρ c); isplitr; · (ipureintro; rfl)
    unfold xP; iexact Hx
  isplitl [Hw]
  · iexists (wC m ρ c); isplitr; · (ipureintro; rfl)
    unfold wP; iexact Hw
  iexists f; isplitr; · (ipureintro; exact out_eq m ρ c f fun s => hf s (Finset.mem_univ s))
  iexact Ho

/-- What is held before the point, the records apart, is the first state. -/
theorem body_start (c : Dev nD) :
    before₀ m ρ c ⊢ iprop(∃ K, St m ρ K c (xbAny c) (outP m ρ c ∅) iprop(SigSt c 0 ∗ (SlotSt c 0 ∗ remB c ∗ aside c))) := by
  unfold before₀ start Dat.owesAt Pipeline.owesWithin
  rw [show (dats m ρ 0 c).owed t0_0.castSucc = O₀ c from rfl]
  iintro ⟨⟨⟨%K, HC, Hl, Hc⟩, Hxb, Hsb, Hgb⟩, ⟨%W, -, HO⟩, ⟨%d0, %g0, %h0, Hx⟩, ⟨%d1, %g1, %h1, Hw⟩, ⟨%d2, %g2, -, Ho⟩⟩
  have hx : g0 = xC m ρ c := by rw [h0]; unfold Dat.before; rw [if_pos (fetch0_0 t0_0)]; rfl
  have hw : g1 = wC m ρ c := by rw [h1]; unfold Dat.before; rw [if_pos (fetch0_1 t0_0)]; rfl
  subst hx; subst hw
  iexists K
  unfold St
  isplitl [HC]; · iexact HC
  isplitl [Hx Hw Hxb Ho]
  · isplitl [Hx]; · unfold xP; iexact Hx
    isplitl [Hw]; · unfold wP; iexact Hw
    isplitl [Hxb]; · iexact Hxb
    unfold outP
    iexists g2
    isplitr; · (ipureintro; intro s hs; exact absurd hs (Finset.notMem_empty s))
    iexact Ho
  iapply (phase_start c)
  isplitl [Hl]; · iexact Hl
  isplitl [Hc]; · iexact Hc
  isplitl [HO]; · unfold ow; iexists W; iexact HO
  isplitl [Hgb] <;> iassumption

/-- The pipeline's call at the one grid point is the body on the whole buffers. -/
theorem call_eq : defs₀ (F := F) Proc.tc 0 (t0_0, cfg0.slots t0_0) = theBody :=
  (show defs₀ (F := F) Proc.tc 0 (t0_0, cfg0.slots t0_0) = bodyAt0 t0_0 from rfl).trans rfl
theorem before_eq (c : Dev nD) : iprop((dats m ρ 0 c).Φ t0_0.castSucc ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d))) = before₀ m ρ c := rfl
theorem after_eq (c : Dev nD) : iprop((dats m ρ 0 c).Φ t0_0.succ ∗ (dats m ρ 0 c).owesAt () t0_0.succ
    ∗ held c cc0_stg0_0 ((dats m ρ 0 c).after (0 : Fin 3) t0_0) ∗ held c cc0_stg1_0 ((dats m ρ 0 c).after (1 : Fin 3) t0_0)
    ∗ held c cc0_stg2_0 ((dats m ρ 0 c).after (2 : Fin 3) t0_0)) = after₀ m ρ c := rfl

/-- The body, from what is held before the point to what is held after it. -/
theorem body_wp (c : Dev nD) : before₀ m ρ c ⊢ run c (theBody (F := F)) (fun _ => after₀ m ρ c) := by
  have e : iprop(∃ K, St m ρ K c (xbAny c) (outP m ρ c ∅) iprop(SigSt c 0 ∗ (SlotSt c 0 ∗ remB c ∗ aside c)))
      ⊢ run c (theBody (F := F)) (fun _ => after₀ m ρ c) := by
    iintro ⟨%K, H⟩
    iapply (body_run m ρ K c (body_end m ρ K c))
    iexact H
  exact BI.BIBase.Entails.trans (body_start m ρ c) e

/-- A run stated of equal programs, states and results is the same run. -/
theorem obligation_of (c : Dev nD) {p q : Prog (TpuEff nD τ sig (Elt F) Λ₀ .tc) PUnit} {B B' A A' : sProp 𝕄} (hp : p = q) (hB : B = B') (hA : A = A')
    (h : B' ⊢ run c q (fun _ => A')) : B ⊢ run c p (fun _ => A) := by
  subst hp; subst hB; subst hA; exact h

set_option maxRecDepth 30000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_held]
  exact obligation_of c call_eq (before_eq m ρ c) (after_eq m ρ c) (body_wp m ρ c)

end Cert.KernelIdeal.A2A

end
-- ==== Proof.Launch.lean ====
/-
# The launch

Every device's semaphore cells are opened together; the duties' tokens, minted where the cells lie, are dealt to the
devices that pay them; each device's credit at launch is what the others owe it. The run of `@main` follows.
-/
module

public import proofs.«01_k».proof.Proof.Run
public import Idealize.ShloMosaic.Lib.Quiescent
public import Idealize.ShloMosaic.Lib.Pipeline.CollectiveSegs

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch of `@main`'s one kernel: its own semaphores. -/
theorem own_facts : Pipeline.OwnSemFacts cfg0.spec osem := by decide +kernel

theorem share_full (c : Dev nD) (w : Fin cfg0.W) : (dats m ρ 0 c).share w = fullShare := by unfold Dat.share; split <;> rfl

/-! ## Cells and tokens -/

theorem csem_inj : Function.Injective csem := by decide +kernel
theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]
/-- Every device's cells. -/
def allCells : Finset (GSem nD τ sig) := Finset.univ.map ⟨kcell, kcell_inj⟩

/-- A device's duties: its barrier's fifteen, and one for each of its other cells. -/
abbrev Duty : Type := Fin 15 ⊕ (Bool × Fin 15)
/-- A duty as (the cell's index, the duty's name there). -/
abbrev dutyAt : Duty → CI × Fin 15 := fun | .inl d => (none, d) | .inr i => (some i, 0)
theorem dutyAt_inj : Function.Injective dutyAt := by decide +kernel
abbrev tokAt (cj : Dev nD × Duty) : GSem nD τ sig × ℕ × Fin 15 := (kcell (cj.1, (dutyAt cj.2).1), 0, (dutyAt cj.2).2)
theorem tokAt_inj : Function.Injective tokAt := by
  rintro ⟨c, j⟩ ⟨c', j'⟩ h
  have h1 : (c, (dutyAt j).1) = (c', (dutyAt j').1) := kcell_inj (congrArg Prod.fst h)
  have h2 : (dutyAt j).2 = (dutyAt j').2 := congrArg (fun x : GSem nD τ sig × ℕ × Fin 15 => x.2.2) h
  have h3 : j = j' := dutyAt_inj (Prod.ext (congrArg Prod.snd h1) h2)
  rw [show c = c' from congrArg Prod.fst h1, h3]
/-- Every device's duties' tokens. -/
def allToks : Finset (GSem nD τ sig × ℕ × Fin 15) := Finset.univ.map ⟨tokAt, tokAt_inj⟩

/-- The launch element. -/
def u₀ : UU :=
  (initOf (Pipeline.cells cfgs cellOf_inj) (Pipeline.launchToks cfgs cellOf_inj), initOf allCells allToks)

/-- The tokens of the duties of device `c`'s own cells, as minted. -/
def ownToks (c : Dev nD) : sProp 𝕄 :=
  iprop(bigSep Finset.univ (fun d : Fin 15 => dutyTok ER (barCell c) 0 d)
    ∗ bigSep Finset.univ (fun k : Fin 15 => dutyTok ER (recvCell c k) 0 0)
    ∗ bigSep Finset.univ (fun k : Fin 15 => dutyTok ER (sendCell c k) 0 0))

/-- What the launch element deals device `c`, -/
def G (c : Dev nD) : sProp 𝕄 :=
  iprop(bigSep Finset.univ (fun i : CI => roundState ER (rd m ρ) (kcell (c, i)) 0)
    ∗ bigSep Finset.univ (fun i : CI => iprop(atPos ER (kcell (c, i)) 0 ∅ 0 ∗ reached ER (kcell (c, i)) 0)) ∗ ownToks c)

/-- the cells' records, -/
def records (K : Dev nD × CI → ℕ) : sProp 𝕄 :=
  iprop(bigSep Finset.univ (fun ck => cellInv ER (rd m ρ) (K ck) (kcell ck)) ∗ bigSep Finset.univ (fun ck => reached ER (kcell ck) 0))
instance records_persistent (K : Dev nD × CI → ℕ) : BI.Persistent (records m ρ K) := by unfold records; infer_instance

/-- and what the global step makes of them. -/
def G' (c : Dev nD) : sProp 𝕄 := iprop(∃ K, records m ρ K ∗ linear c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by
      unfold ownToks
      rw [BI.bigSep_univ_sum, own_split]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one semaphore outside the kernel's scope. -/
theorem unscoped_eq (c : Dev nD) : (unscopedSems0 c : sProp 𝕄) = semVal (barCell c) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) osem c : sProp 𝕄)
    = bigSep Finset.univ (fun i : Bool × Fin 15 => semVal ((c : Thread nD τ), osem i) 0) := rfl

/-- The semaphores a device is dealt are its cells', at zero. -/
theorem dealt_sems (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [own_eq, unscoped_eq, cells_split']
  iintro ⟨HO, HB⟩
  isplitl [HB]; · iexact HB
  iexact HO

/-- One device's cells opened. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(bigSep Finset.univ (fun i : CI => iprop(∃ κ : ℕ, cellInv ER (rd m ρ) κ (kcell (c, i))))
          ∗ bigSep Finset.univ (fun i : CI => iprop(atPos ER (kcell (c, i)) 0 ∅ 0 ∗ reached ER (kcell (c, i)) 0)) ∗ ownToks c) := by
  unfold G
  iintro ⟨Hos, Hus, Hst, Hat, Htok⟩
  ihave Hv := (dealt_sems (F := F) c) $$ [Hos Hus]
  · isplitl [Hos] <;> iassumption
  imod (show iprop(bigSep Finset.univ (fun i : CI => semVal (kcell (c, i)) 0) ∗ bigSep Finset.univ (fun i : CI => roundState ER (rd m ρ) (kcell (c, i)) 0))
      ⊢ (|={Set.univ}=> bigSep Finset.univ fun i : CI => iprop(∃ κ : ℕ, cellInv ER (rd m ρ) κ (kcell (c, i))) : sProp 𝕄) from by
        rw [← bigSep_sep']
        exact (bigSep_mono fun i _ => (Rounds.body_intro ER (rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- A barrier duty, by the device that pays it or by the device whose cell it is; so a receive cell's. -/
def payBar : Dev nD × Fin 15 ≃ Dev nD × Fin 15 :=
  ⟨fun p => (peer p.1 p.2, p.2), fun p => (bk p.1 p.2, p.2), fun p => Prod.ext (bk_peer p.1 p.2) rfl, fun p => Prod.ext (peer_bk p.1 p.2) rfl⟩
def payRecv : Dev nD × Fin 15 ≃ Dev nD × Fin 15 :=
  ⟨fun p => (dst p.1 p.2, p.2), fun p => (src p.1 p.2, p.2), fun p => Prod.ext (src_dst p.1 p.2) rfl, fun p => Prod.ext (dst_src p.1 p.2) rfl⟩

/-- A doubly indexed family over the devices, renumbered. -/
theorem renumber {M : Type} [URA M] (e : Dev nD × Fin 15 ≃ Dev nD × Fin 15) (Φ : Dev nD × Fin 15 → sProp M) :
    bigSep Finset.univ (fun c : Dev nD => bigSep Finset.univ (fun d : Fin 15 => Φ (c, d)))
      = bigSep Finset.univ (fun c : Dev nD => bigSep Finset.univ (fun d : Fin 15 => Φ (e (c, d)))) := by
  rw [← BI.bigSep_univ_prod Φ, BI.bigSep_univ_equiv e Φ, BI.bigSep_univ_prod]

/-- The tokens dealt to the devices that pay. -/
theorem deal : (bigSep Finset.univ fun c : Dev nD => (ownToks c : sProp 𝕄)) ⊢ bigSep Finset.univ fun c : Dev nD => payToks c := by
  unfold ownToks payToks
  rw [bigSep_sep', bigSep_sep', bigSep_sep', bigSep_sep',
    renumber payBar (fun p => (dutyTok ER (barCell p.1) 0 p.2 : sProp 𝕄)), renumber payRecv (fun p => (dutyTok ER (recvCell p.1 p.2) 0 0 : sProp 𝕄))]
  exact Entails.of_eq rfl

theorem one_start (K : Dev nD × CI → ℕ) (c : Dev nD) : iprop(records m ρ K ∗ linear c) ⊢ G' m ρ c := by
  unfold G'
  iintro H; iexists K; iexact H

/-- The dealing, every device at once. -/
theorem deal_all :
    (bigSep Finset.univ fun c : Dev nD => iprop(bigSep Finset.univ (fun i : CI => iprop(∃ κ : ℕ, cellInv ER (rd m ρ) κ (kcell (c, i))))
          ∗ bigSep Finset.univ (fun i : CI => iprop(atPos ER (kcell (c, i)) 0 ∅ 0 ∗ reached ER (kcell (c, i)) 0)) ∗ ownToks c) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (deal (F := F)) $$ Htok
  iapply (bigSep_along (R := records m ρ K) fun c _ => one_start m ρ K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (deal_all m ρ))

/-! ## The launch credit -/

theorem bar_ne_recv (k : Fin 15) : (SemLoc.dma (recvS k) : SemLoc sig) ≠ .reg barS := fun h => by cases h
theorem recvS_inj {k k' : Fin 15} (h : (SemLoc.dma (recvS k) : SemLoc sig) = .dma (recvS k')) : k = k' := by
  have h' : recvS k = recvS k' := SemLoc.dma.inj h
  rw [← slotOf_recv k, h', slotOf_recv]

/-- What device `d` owes a barrier cell: one unit for each signal it sends there; -/
theorem owes_bar (d c : Dev nD) : O₀ d (barCell c) () = ∑ k : Fin 15, if d = bk c k then 1 else 0 := by
  unfold O₀ Orecv Obar
  rw [show (ge 0 : Finset (Fin 15)) = Finset.univ by decide, Pi.add_apply, Finsupp.add_apply, Finset.sum_apply, Finsupp.finsetSum_apply, Finset.sum_apply, Finsupp.finsetSum_apply,
    Finset.sum_eq_zero fun k _ => by rw [tallyAt_ne_cell (fun h => bar_ne_recv k (congrArg Prod.snd h).symm)]; rfl, Nat.zero_add]
  refine Finset.sum_congr rfl fun k _ => ?_
  rw [tallyAt_apply]
  by_cases h : d = bk c k
  · subst h; rw [if_pos ⟨by rw [peer_bk], rfl⟩, if_pos rfl]
  · rw [if_neg (fun ⟨h1, _⟩ => h (by rw [show c = peer d k from congrArg (fun g : GSem nD τ sig => g.1.1) h1, bk_peer])), if_neg h]

/-- a receive cell: a tile's credit, if it is the device the cell is served from. -/
theorem owes_recv (d c : Dev nD) (k : Fin 15) : O₀ d (recvCell c k) () = if d = src c k then N else 0 := by
  unfold O₀ Orecv Obar
  rw [show (ge 0 : Finset (Fin 15)) = Finset.univ by decide, Pi.add_apply, Finsupp.add_apply, Finset.sum_apply, Finsupp.finsetSum_apply, Finset.sum_apply, Finsupp.finsetSum_apply,
    Finset.sum_eq_zero (s := Finset.univ) (f := fun i : Fin 15 => (tallyAt (barCell (peer d i)) () 1 : CellTallies nD τ sig Unit) (recvCell c k) ())
      fun i _ => by rw [tallyAt_ne_cell (fun h => bar_ne_recv k (congrArg Prod.snd h))]; rfl,
    Nat.add_zero, Finset.sum_eq_single k
      (fun i _ hi => by rw [tallyAt_ne_cell (fun h => hi (recvS_inj (congrArg Prod.snd h)).symm)]; rfl)
      (fun h => absurd (Finset.mem_univ k) h), tallyAt_apply]
  by_cases h : d = src c k
  · subst h; rw [if_pos ⟨by rw [dst_src], rfl⟩, if_pos rfl]
  · rw [if_neg (fun ⟨h1, _⟩ => h (by rw [show c = dst d k from congrArg (fun g : GSem nD τ sig => g.1.1) h1, src_dst])), if_neg h]

theorem credit_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owes_bar d c, Finset.sum_comm,
    Finset.sum_congr rfl fun k _ => (Finset.sum_ite_eq' Finset.univ (bk c k) fun _ => 1).trans (if_pos (Finset.mem_univ _)),
    Finset.sum_const, Finset.card_univ, Fintype.card_fin, smul_eq_mul]

theorem credit_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owes_recv d c k,
    Finset.sum_ite_eq' Finset.univ (src c k) fun _ => N, if_pos (Finset.mem_univ _)]

theorem dealt_credits (c : Dev nD) : (Pipeline.launchCred O₀ c : sProp 𝕄) ⊢ credits c := by
  unfold Pipeline.launchCred credits
  rw [bigSep_univ_at _ (SemLoc.reg barS), credit_bar]
  refine sep_mono_right ?_
  have e := BI.bigSep_subset (s := Finset.univ.erase (SemLoc.reg barS : SemLoc sig))
    (t := Finset.univ.map ⟨fun k : Fin 15 => (SemLoc.dma (recvS k) : SemLoc sig), fun _ _ h => recvS_inj h⟩)
    (Φ := fun sm : SemLoc sig => (cred (tallyOn ((c : Thread nD τ), sm) (launchCredit (Pipeline.owing O₀) 0 ((c : Thread nD τ), sm))) : sProp 𝕄))
    (fun sm h => by
      obtain ⟨k, -, rfl⟩ := Finset.mem_map.mp h
      exact Finset.mem_erase.mpr ⟨bar_ne_recv k, Finset.mem_univ _⟩)
  refine BI.BIBase.Entails.trans e ?_
  rw [BI.bigSep_map]
  exact bigSep_mono fun k _ => Entails.of_eq (congrArg cred (credit_recv c k))

/-! ## The run -/

theorem launch_start (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' records Ctx
  iintro ⟨-, #Hlev, Hcr, -, ⟨%K, ⟨#HI, #HR⟩, Hl⟩⟩
  ihave Hc := (dealt_credits (F := F) c) $$ Hcr
  imodintro
  isplitl
  · iexists K
    isplitr
    · isplitr; · iexact Hlev
      isplitr; · iexact HI
      iexact HR
    isplitl [Hl]; · iexact Hl
    iexact Hc
  · iempintro

theorem launch_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ (xbAny c ∗ sbAny c ∗ gbAny c)) from rfl, scopedRest0_eq]
  unfold xbAny sbAny gbAny
  iintro ⟨Hs, -, H⟩
  isplitl [Hs]; · iexact Hs
  iexact H

theorem launch_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_eq, unscoped_eq]
  unfold Φ₁ xbAny sbAny gbAny
  iintro ⟨H, HO, HB⟩
  isplitl [HB]; · iexact HB
  isplitl [HO]; · iexact HO
  iexact H

theorem launch_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

/-- Every window's array at its final contents. -/
def AtEnd : PUnit × MemSt nD τ sig (Elt F) → Prop := fun r =>
  ∀ c : Dev nD, ∀ w : Fin cfg0.W, r.2.mem ((cfg0.win w).arr.view.loc (c : Thread nD τ)) = finalA m ρ c w

set_option maxRecDepth 30000 in
/-- On sixteen devices, for any float values, from any memory with zero counters: every weakly fair execution of `@main`
    ends, every window's array at its final contents and every semaphore counter at zero. -/
theorem run_main : θ_run defs (onTc (τ := τ) (main (F := F))) (s₀ m ρ) (fun r => AtEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => block_pos0 w) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := launch_waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := launch_start m ρ) (hin := launch_in m ρ) (hout := launch_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- `x` and `w` hold what they held. -/
theorem final_x (c : Dev nD) : finalA m ρ c (0 : Fin 3) = (s₀ m ρ).mem ((c : Thread nD τ).loc main_arg0) :=
  (dats (F := F) m ρ 0 c).arrAt_in (0 : Fin 3) rfl _
theorem final_w (c : Dev nD) : finalA m ρ c (1 : Fin 3) = (s₀ m ρ).mem ((c : Thread nD τ).loc main_arg1) :=
  (dats (F := F) m ρ 0 c).arrAt_in (1 : Fin 3) rfl _

end Cert.KernelIdeal.A2A

end
-- ==== Proof.Value.lean ====
/-
# The result's values

Read at the extended reals, device `c`'s result is column block `c` of `max (x · w) 0`, which is what the reference
computes.
-/
module

public import proofs.«01_k».proof.Proof.Launch
public import proofs.«01_k».proof.Defs
public import proofs.«01_k».proof.Proof.Gen.ReferenceIdeal.Run
public import Idealize.ShloMosaic.Lib.Pipeline.Value
public import Idealize.ShloMosaic.Lib.MatmulPlain
public import Idealize.ShloMosaic.Lib.StackMember
public import Idealize.ShloMosaic.Lib.ValueIdxCore

@[expose] public section

noncomputable section

namespace Cert.KernelIdeal.A2A

open Cert.KernelIdeal Cert.KernelIdeal.Gen

open Idealize.ShloMosaic
open Idealize.ShloMosaic.TcCoe
open Idealize.ShloMosaic.ValueIdx
open Idealize.SL.Sem
open scoped BigOperators

section Any

variable {F : FTy → Type} [FloatOps F]
variable (m : (ℓ : Loc nD τ sig) → Buf (Elt F) ℓ) (ρ : Dev nD → PrngReg)

/-- The staged `x` block and the staged `w` are the whole argument arrays. -/
theorem xC_eq (c : Dev nD) : xC m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem wC_eq (c : Dev nD) : wC m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-- The result array after the run: what the body left in its staging buffer. -/
theorem final_out (c : Dev nD) : finalA m ρ c (2 : Fin 3) = outC m ρ c := by
  have hz : (fun a => (win0_2.index (0 : Fin 1)) a * main_v1.ty.shape.size a) = fun _ => 0 := funext fun a => by fin_cases a <;> decide
  have hr := fun f => Memref.read_access_unit_zero (Elt F) main_v1 hz (fun a => by fin_cases a <;> decide) f
  have ho : (win0_2.blk (0 : Fin 1)).view.read (Elt F) (finalA m ρ c (2 : Fin 3)) = outC m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (hr _).symm.trans ho

/-- A column block of `w`, by coordinates. -/
theorem wcol_apply (W : (cc0_stg1_0 : Ref sig .tc).ty.Contents (Elt F)) (t : Fin 16) (k : Fin 2048) (q : Fin 128)
    (j : Fin 2048) (hj : j.val = 128 * t.val + q.val) : wcol W t (ix2 k q) = W (ix2 k j) := by
  unfold wcol
  show W ((wM.view.slice (colR t)).emb (ix2 k q)) = W (ix2 k j)
  congr 1
  funext a
  fin_cases a
  · exact Fin.ext (by show 0 + 1 * k.val = k.val; omega)
  · exact Fin.ext (by show 128 * t.val + 1 * q.val = j.val; omega)

end Any

variable (m : (ℓ : Loc nD τ sig) → Buf (Elt Ideal) ℓ) (ρ : Dev nD → PrngReg)

/-- An element of the tile a device makes from its `x` block `X` and a column block `W` of `w`. -/
theorem pay_apply (W : FVec Ideal S2048x128 .bf16) (X : FVec Ideal S128x2048 .bf16) (r q : Fin 128) :
    k0_pay4 (F := Ideal) W X (ix2 r q) = max (∑ k : Fin 2048, (X (ix2 r k) * W (ix2 k q) : EReal)) (0 : EReal) := by
  have e := Ideal.matmul_plain_apply (M := 128) (K := 2048) (N := 128) none X W (constant S128x128 .f32 0x00000000#32) r q
  unfold k0_pay4
  rw [shapeCast_self]
  show max (FloatOps.matmul (DotDims.plain 128 2048 128) none X W (constant S128x128 .f32 0x00000000#32) (ix2 r q)) _ = _
  rw [e]
  have hz : (constant (F := Ideal) S128x128 .f32 0x00000000#32) (ix2 r q) = (0 : EReal) := Ideal.ofBits_zero_f32
  rw [hz, zero_add]
  exact congrArg (fun z : EReal => max _ z) Ideal.ofBits_zero_f32

/-- The whole product, clipped below at zero. -/
def whole (X W : (⟨2, ![2048, 2048]⟩ : Shape).Idx → EReal) : (⟨2, ![2048, 2048]⟩ : Shape).Idx → EReal :=
  fun i => max (∑ k : Fin 2048, X (ix2 (i 0) k) * W (ix2 k (i 1))) 0

/-- Device `c`'s result is its column block of the whole, if every device holds its row block of `X` and all of `W`. -/
theorem out_block (X W : (⟨2, ![2048, 2048]⟩ : Shape).Idx → EReal)
    (hX : ∀ c : Dev nD, m ((c.tc : Thread nD τ).loc main_arg0) = Layout.block ⟨2, ![128, 2048]⟩ ⟨2, ![2048, 2048]⟩ 0 16 c X)
    (hW : ∀ c : Dev nD, m ((c.tc : Thread nD τ).loc main_arg1) = W) (c : Dev nD) :
    outC m ρ c = Layout.block ⟨2, ![2048, 128]⟩ ⟨2, ![2048, 2048]⟩ 1 16 c (whole X W) := by
  funext i
  have h0 : (i 0).val < 2048 := (i 0).isLt
  have h1 : (i 1).val < 128 := (i 1).isLt
  have hs : (i 0).val / 128 < 16 := by omega
  have hr : (i 0).val % 128 < 128 := Nat.mod_lt _ (by decide)
  refine (pay_apply (wcol (wC m ρ ⟨(i 0).val / 128, hs⟩) c) (xC m ρ ⟨(i 0).val / 128, hs⟩) ⟨(i 0).val % 128, hr⟩ ⟨(i 1).val, h1⟩).trans ?_
  rw [xC_eq, wC_eq]
  refine (congrArg (fun s : EReal => max s 0) (Finset.sum_congr rfl fun k _ => ?_)).trans (Layout.block_apply (S := ⟨2, ![2048, 128]⟩) (T := ⟨2, ![2048, 2048]⟩) c (whole X W) (by decide) i).symm
  have hw := wcol_apply (F := Ideal) (m ((Dev.tc (⟨(i 0).val / 128, hs⟩ : Dev nD)).loc main_arg1)) c k ⟨(i 1).val, h1⟩
    ⟨128 * c.val + (i 1).val, by have hc : c.val < 16 := c.isLt; omega⟩ rfl
  rw [hw, hX, hW, Layout.block_apply]
  congr 2
  · funext a
    fin_cases a
    · exact Fin.ext (by
        show (i 0).val / 128 * 128 + (i 0).val % 128 = (i 0).val
        have := Nat.div_add_mod (i 0).val 128; omega)
    · rfl
  · funext a
    fin_cases a
    · rfl
    · exact Fin.ext (by show 128 * c.val + (i 1).val = c.val * 128 + (i 1).val; omega)

/-- The reference's result is the whole. -/
theorem ref_whole (X W : FVec Ideal Cert.ReferenceIdeal.S2048x2048 .bf16) (i : (⟨2, ![2048, 2048]⟩ : Shape).Idx) :
    maximumf (F := Ideal) (extf .f32 (truncf .bf16 (Host.dotGeneral Cert.ReferenceIdeal.dot_S2048x2048_S2048x2048_S2048x2048_1_0_0_1_n_n none X W)
        Cert.ReferenceIdeal.Facts₀.bitsLt_bf16_f32) Cert.ReferenceIdeal.Facts₀.bitsLt_bf16_f32)
      (broadcastInDim Cert.ReferenceIdeal.S2048x2048 ![] Cert.ReferenceIdeal.Facts₀.bcast_S_S2048x2048 (constant Cert.ReferenceIdeal.S_ .f32 0x00000000#32)) i = whole X W i := by
  obtain ⟨a, b, rfl⟩ : ∃ a b : Fin 2048, i = ix2 a b := ⟨i 0, i 1, by funext a; fin_cases a <;> rfl⟩
  have e := StackMember.dotGeneral_plain_apply (m := 2048) (k := 2048) (n := 2048) (φ₁ := .bf16) (φ₂ := .bf16) none X W a b
  exact congrArg₂ (fun u v : EReal => max u v) e Ideal.ofBits_zero_f32

end Cert.KernelIdeal.A2A

end
-- ==== Proof.lean ====
/-
# The certificate

The three frames come from the two runs: the kernel's is `A2A.run_main`, proved once for any reading of floats, and the
reference's is generated. The algebraic claim adds that the kernel's result array is `outC`, and that `outC` is the
device's column block of the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

section

set_option maxRecDepth 30000

/-- The two printed programs have the same text, so the same table of kernel bodies; -/
theorem bodies_eq : Cert.Kernel.defs₀ (F := Bits) = Cert.KernelIdeal.defs₀ (F := Bits) := by
  unfold Cert.Kernel.defs₀ Cert.KernelIdeal.defs₀
  refine congrArg Defs.onTc ?_
  funext l
  have hl : l = (0 : Fin 1) := Subsingleton.elim (α := Fin 1) _ _
  subst hl
  rfl

/-- and the same table with the call's pipeline. -/
theorem defs_eq : Cert.Kernel.defs (F := Bits) = Cert.KernelIdeal.defs (F := Bits) :=
  congrArg (Pipeline.defs Cert.KernelIdeal.pcfgs) bodies_eq

end

/-- The kernel read at the machine's floats runs, leaves its arguments as they were and ends with every counter at zero. -/
theorem frame_kernel : Cert.quiescent_Kernel := fun m ρ _ => by
  refine (congrArg (fun D => θ_run D _ _ _) defs_eq).mpr ?_
  exact (θ_run Cert.KernelIdeal.defs _ _).mono
    (fun _ h => ⟨fun c => ⟨(h.1 c (0 : Fin 3)).trans (Cert.KernelIdeal.A2A.final_x m ρ c),
      (h.1 c (1 : Fin 3)).trans (Cert.KernelIdeal.A2A.final_w m ρ c)⟩, h.2⟩)
    (Cert.KernelIdeal.A2A.run_main (F := Bits) m ρ)

/-- The same of the kernel read at the extended reals. -/
theorem frame_ideal : Cert.quiescent_KernelIdeal := fun m ρ _ =>
  (θ_run Cert.KernelIdeal.defs _ _).mono
    (fun _ h => ⟨fun c => ⟨(h.1 c (0 : Fin 3)).trans (Cert.KernelIdeal.A2A.final_x m ρ c),
      (h.1 c (1 : Fin 3)).trans (Cert.KernelIdeal.A2A.final_w m ρ c)⟩, h.2⟩)
    (Cert.KernelIdeal.A2A.run_main (F := Ideal) m ρ)

/-- The same of the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Both programs' results are the whole product clipped at zero: the reference's is all of it, each device's its column
    block. -/
theorem values : Cert.algebraic_KernelIdeal_ReferenceIdeal := by
  intro m g m' g' _ hagree
  refine ⟨Cert.KernelIdeal.A2A.whole
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨?_, (h.1 c (0 : Fin 3)).trans (Cert.KernelIdeal.A2A.final_x m g c),
      (h.1 c (1 : Fin 3)).trans (Cert.KernelIdeal.A2A.final_w m g c)⟩) (Cert.KernelIdeal.A2A.run_main (F := Ideal) m g),
    (θ_run Cert.ReferenceIdeal.defs _ _).mono (fun _ h => ⟨?_, (h 0).2⟩) (Cert.ReferenceIdeal.Value.run (F := Ideal) m' g')⟩
  · exact ((h.1 c (2 : Fin 3)).trans (Cert.KernelIdeal.A2A.final_out m g c)).trans
      (Cert.KernelIdeal.A2A.out_block m g _ _ (fun c => (hagree c).1) (fun c => (hagree c).2) c)
  · exact (h 0).1.trans (funext fun i => Cert.KernelIdeal.A2A.ref_whole _ _ i)

theorem claim : Cert.Claim := ⟨Cert.Kernel.Gen.facts, Cert.KernelIdeal.Gen.facts, Cert.ReferenceIdeal.Gen.facts,
  frame_kernel, frame_ideal, frame_reference, trivial, values⟩

end Cert.Proof

end
